-- ==== Defs.lean ====
def Pre_Kernel [hPre_phase_range : Cert.Pre_phase_range.Facts] (m : (ℓ : Loc Cert.Kernel.nD Cert.Kernel.τ Cert.Kernel.sig) → Buf (Elt Bits) ℓ) : Prop :=
  ∀ c : Dev Cert.Kernel.nD,
    (Cert.Pre_phase_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_phase_range : Cert.Pre_phase_range.Facts] (m : (ℓ : Loc Cert.KernelIdeal.nD Cert.KernelIdeal.τ Cert.KernelIdeal.sig) → Buf (Elt Ideal) ℓ) : Prop :=
  ∀ c : Dev Cert.KernelIdeal.nD,
    (Cert.Pre_phase_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_phases_and_blur [hPre_phases_and_blur : Cert.Pre_phases_and_blur.Facts] (m : (ℓ : Loc Cert.KernelIdeal.nD Cert.KernelIdeal.τ Cert.KernelIdeal.sig) → Buf (Elt Ideal) ℓ) : Prop :=
  ∀ c : Dev Cert.KernelIdeal.nD,
    (Cert.Pre_phases_and_blur.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_phases_and_blur.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_phases_and_blur [hPre_phases_and_blur : Cert.Pre_phases_and_blur.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_phases_and_blur.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_phases_and_blur.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] [hPre_phase_range : Cert.Pre_phase_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_phase_range : Cert.Pre_phase_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_phases_and_blur [hKernelIdeal : Cert.KernelIdeal.Facts] [hPre_phases_and_blur : Cert.Pre_phases_and_blur.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_phases_and_blur m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_phases_and_blur [hReferenceIdeal : Cert.ReferenceIdeal.Facts] [hPre_phases_and_blur : Cert.Pre_phases_and_blur.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_phases_and_blur m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_phases_and_blur [hKernelIdeal : Cert.KernelIdeal.Facts] [hReferenceIdeal : Cert.ReferenceIdeal.Facts] [hPre_phases_and_blur : Cert.Pre_phases_and_blur.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_phases_and_blur m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_phase_range : Cert.Pre_phase_range.Facts) (hPre_phases_and_blur : Cert.Pre_phases_and_blur.Facts),
    quiescent_Kernel (hKernel := hKernel) (hPre_phase_range := hPre_phase_range)
    ∧ quiescent_KernelIdeal (hKernelIdeal := hKernelIdeal) (hPre_phase_range := hPre_phase_range)
    ∧ quiescent_KernelIdeal_pre_phases_and_blur (hKernelIdeal := hKernelIdeal) (hPre_phases_and_blur := hPre_phases_and_blur)
    ∧ quiescent_ReferenceIdeal (hReferenceIdeal := hReferenceIdeal)
    ∧ quiescent_ReferenceIdeal_pre_phases_and_blur (hReferenceIdeal := hReferenceIdeal) (hPre_phases_and_blur := hPre_phases_and_blur)
    ∧ preserves_Kernel_KernelIdeal
    ∧ algebraic_KernelIdeal_ReferenceIdeal_pre_phases_and_blur (hKernelIdeal := hKernelIdeal) (hReferenceIdeal := hReferenceIdeal) (hPre_phases_and_blur := hPre_phases_and_blur)
-- ==== Pre_phase_range.lean ====
abbrev S8x96x112x112 : Shape := ⟨4, ![8, 96, 112, 112]⟩
abbrev S8 : Shape := ⟨1, ![8]⟩
abbrev S96x1x3x3 : Shape := ⟨4, ![96, 1, 3, 3]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x96x112x112 .f32) (main_arg1 : IVec S8 32) (main_arg2 : FVec F S96x1x3x3 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 4#32
  let main_v2 : IVec S8 32 := broadcastInDim S8 ![] bcast_S_S8 main_c_0
  let main_v3 : IVec S8 1 := cmpi .slt main_arg1 main_v2
  let main_v4 : IVec S8 1 := andi main_v1 main_v3
  main_v4
-- ==== Pre_phases_and_blur.lean ====
abbrev S8x96x112x112 : Shape := ⟨4, ![8, 96, 112, 112]⟩
abbrev S8 : Shape := ⟨1, ![8]⟩
abbrev S96x1x3x3 : Shape := ⟨4, ![96, 1, 3, 3]⟩
abbrev S3 : Shape := ⟨1, ![3]⟩
abbrev S3x1 : Shape := ⟨2, ![3, 1]⟩
abbrev S1x3 : Shape := ⟨2, ![1, 3]⟩
abbrev S3x3 : Shape := ⟨2, ![3, 3]⟩
abbrev S_ : Shape := ⟨0, ![]⟩
abbrev S1x1x3x3 : Shape := ⟨4, ![1, 1, 3, 3]⟩

class Facts : Prop where
  bcast_S3_S3x1_0 : S3.BroadcastsInDim S3x1 (![0] : Fin 1 → Fin S3x1.rank)
  bcast_S3_S1x3_1 : S3.BroadcastsInDim S1x3 (![1] : Fin 1 → Fin S1x3.rank)
  bcast_S3x1_S3x3_0_1 : S3x1.BroadcastsInDim S3x3 (![0, 1] : Fin 2 → Fin S3x3.rank)
  bcast_S1x3_S3x3_0_1 : S1x3.BroadcastsInDim S3x3 (![0, 1] : Fin 2 → Fin S3x3.rank)
  bcast_S_S8 : S_.BroadcastsInDim S8 (![] : Fin 0 → Fin S8.rank)
  bcast_S3x3_S1x1x3x3_2_3 : S3x3.BroadcastsInDim S1x1x3x3 (![2, 3] : Fin 2 → Fin S1x1x3x3.rank)
  bcast_S1x1x3x3_S96x1x3x3_0_1_2_3 : S1x1x3x3.BroadcastsInDim S96x1x3x3 (![0, 1, 2, 3] : Fin 4 → Fin S96x1x3x3.rank)

variable [Facts]

noncomputable abbrev lit0 : Fin 3 → BitVec 32 := fun
  | 0 => 0x3E800000#32 | 1 => 0x3F000000#32 | 2 => 0x3E800000#32
  | _ => 0#32

def fn {F : FTy → Type} [FloatOps F] (main_arg0 : FVec F S8x96x112x112 .f32) (main_arg1 : IVec S8 32) (main_arg2 : FVec F S96x1x3x3 .f32) : IVec S8 1 × IVec S96x1x3x3 1 :=
  let main_cst : FVec F S3 .f32 := fun i => FloatOps.ofBits .f32 (lit0 (S3.rowMajor i))
  let main_v0 : FVec F S3x1 .f32 := broadcastInDim S3x1 ![0] bcast_S3_S3x1_0 main_cst
  let main_v1 : FVec F S1x3 .f32 := broadcastInDim S1x3 ![1] bcast_S3_S1x3_1 main_cst
  let main_v2 : FVec F S3x3 .f32 := broadcastInDim S3x3 ![0, 1] bcast_S3x1_S3x3_0_1 main_v0
  let main_v3 : FVec F S3x3 .f32 := broadcastInDim S3x3 ![0, 1] bcast_S1x3_S3x3_0_1 main_v1
  let main_v4 : FVec F S3x3 .f32 := mulf main_v2 main_v3
  let main_c : IVec S_ 32 := constantI S_ 32 0#32
  let main_v5 : IVec S8 32 := broadcastInDim S8 ![] bcast_S_S8 main_c
  let main_v6 : IVec S8 1 := cmpi .sge main_arg1 main_v5
  let main_c_0 : IVec S_ 32 := constantI S_ 32 4#32
  let main_v7 : IVec S8 32 := broadcastInDim S8 ![] bcast_S_S8 main_c_0
  let main_v8 : IVec S8 1 := cmpi .slt main_arg1 main_v7
  let main_v9 : IVec S8 1 := andi main_v6 main_v8
  let main_v10 : FVec F S1x1x3x3 .f32 := broadcastInDim S1x1x3x3 ![2, 3] bcast_S3x3_S1x1x3x3_2_3 main_v4
  let main_v11 : FVec F S96x1x3x3 .f32 := broadcastInDim S96x1x3x3 ![0, 1, 2, 3] bcast_S1x1x3x3_S96x1x3x3_0_1_2_3 main_v10
  let main_v12 : IVec S96x1x3x3 1 := cmpf .oeq main_arg2 main_v11
  (main_v9, main_v12)
-- ==== Kernel.lean ====
abbrev S8x96x112x112 : Shape := ⟨4, ![8, 96, 112, 112]⟩
abbrev S8 : Shape := ⟨1, ![8]⟩
abbrev S96x1x3x3 : Shape := ⟨4, ![96, 1, 3, 3]⟩
abbrev S2x112x224 : Shape := ⟨3, ![2, 112, 224]⟩
abbrev S8x96x112x448 : Shape := ⟨4, ![8, 96, 112, 448]⟩
abbrev S1x48x112x112 : Shape := ⟨4, ![1, 48, 112, 112]⟩
abbrev S1x112x224 : Shape := ⟨3, ![1, 112, 224]⟩
abbrev S1 : Shape := ⟨1, ![1]⟩
abbrev S1x48x112x448 : Shape := ⟨4, ![1, 48, 112, 448]⟩
abbrev S48x112x112 : Shape := ⟨3, ![48, 112, 112]⟩
abbrev S5376x112 : Shape := ⟨2, ![5376, 112]⟩
abbrev S112x224 : Shape := ⟨2, ![112, 224]⟩
abbrev S5376x224 : Shape := ⟨2, ![5376, 224]⟩
abbrev S48x112x224 : Shape := ⟨3, ![48, 112, 224]⟩
abbrev S48x111x224 : Shape := ⟨3, ![48, 111, 224]⟩
abbrev S48x1x224 : Shape := ⟨3, ![48, 1, 224]⟩
abbrev S48x112x448 : Shape := ⟨3, ![48, 112, 448]⟩
abbrev S8x96x224x224 : Shape := ⟨4, ![8, 96, 224, 224]⟩

abbrev nBuf : Space → Nat
  | .hbm => 5
  | .vmem => 6
  | .smem => 1
  | _ => 0

abbrev bufTy : (tb : Table) → Fin (tcTables nBuf tb) → BufTy
  | .hbm, ⟨0, _⟩ => ⟨S8x96x112x112, .f32⟩
  | .hbm, ⟨1, _⟩ => ⟨S96x1x3x3, .f32⟩
  | .hbm, ⟨2, _⟩ => ⟨S2x112x224, .f32⟩
  | .hbm, ⟨3, _⟩ => ⟨S8x96x112x448, .f32⟩
  | .hbm, ⟨4, _⟩ => ⟨S8x96x224x224, .f32⟩
  | .local _ .vmem, ⟨0, _⟩ => ⟨S1x48x112x112, .f32⟩
  | .local _ .vmem, ⟨1, _⟩ => ⟨S1x48x112x112, .f32⟩
  | .local _ .vmem, ⟨2, _⟩ => ⟨S1x112x224, .f32⟩
  | .local _ .vmem, ⟨3, _⟩ => ⟨S1x112x224, .f32⟩
  | .local _ .vmem, ⟨4, _⟩ => ⟨S1x48x112x448, .f32⟩
  | .local _ .vmem, ⟨5, _⟩ => ⟨S1x48x112x448, .f32⟩
  | .local _ .smem, ⟨0, _⟩ => ⟨S8, .i32⟩
  | _, _ => ⟨S8x96x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x48x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x48x112x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x96x112x112 : Shape := ⟨4, ![8, 96, 112, 112]⟩
abbrev S8 : Shape := ⟨1, ![8]⟩
abbrev S96x1x3x3 : Shape := ⟨4, ![96, 1, 3, 3]⟩
abbrev S8x96x12544 : Shape := ⟨3, ![8, 96, 12544]⟩
abbrev S_ : Shape := ⟨0, ![]⟩
abbrev S8x4x96x12544 : Shape := ⟨4, ![8, 4, 96, 12544]⟩
abbrev S8x1 : Shape := ⟨2, ![8, 1]⟩
abbrev S8x2 : Shape := ⟨2, ![8, 2]⟩
abbrev S8x96x4x12544 : Shape := ⟨4, ![8, 96, 4, 12544]⟩
abbrev S8x96x50176 : Shape := ⟨3, ![8, 96, 50176]⟩
abbrev S112 : Shape := ⟨1, ![112]⟩
abbrev S1x112 : Shape := ⟨2, ![1, 112]⟩
abbrev S112x1 : Shape := ⟨2, ![112, 1]⟩
abbrev S112x112 : Shape := ⟨2, ![112, 112]⟩
abbrev S12544 : Shape := ⟨1, ![12544]⟩
abbrev S50176 : Shape := ⟨1, ![50176]⟩
abbrev S50176x1 : Shape := ⟨2, ![50176, 1]⟩
abbrev S8x96x224x224 : Shape := ⟨4, ![8, 96, 224, 224]⟩
abbrev S8x96x1x224 : Shape := ⟨4, ![8, 96, 1, 224]⟩
abbrev S8x96x225x224 : Shape := ⟨4, ![8, 96, 225, 224]⟩
abbrev S8x96x226x224 : Shape := ⟨4, ![8, 96, 226, 224]⟩
abbrev S8x96x226x1 : Shape := ⟨4, ![8, 96, 226, 1]⟩
abbrev S8x96x226x225 : Shape := ⟨4, ![8, 96, 226, 225]⟩
abbrev S8x96x226x226 : Shape := ⟨4, ![8, 96, 226, 226]⟩
abbrev S96x1x1x1 : Shape := ⟨4, ![96, 1, 1, 1]⟩
abbrev S96 : Shape := ⟨1, ![96]⟩
abbrev S1x96x1x1 : Shape := ⟨4, ![1, 96, 1, 1]⟩

abbrev nBuf : Space → Nat
  | .hbm => 164
  | .vmem => 0
  | .smem => 0
  | _ => 0

abbrev hbmTy0_0 (i : Nat) : BufTy := match i % 128 with
  | 0 => ⟨S8x96x112x112, .f32⟩
  | 1 => ⟨S8, .i32⟩
  | 2 => ⟨S96x1x3x3, .f32⟩
  | 3 => ⟨S8x96x12544, .f32⟩
  | 4 => ⟨S_, .f32⟩
  | 5 => ⟨S8x4x96x12544, .f32⟩
  | 6 => ⟨S8, .i32⟩
  | 7 => ⟨S_, .i32⟩
  | 8 => ⟨S8, .i32⟩
  | 9 => ⟨S8, .i1⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S_, .i32⟩
  | 18 => ⟨S8, .i32⟩
  | 19 => ⟨S8, .i32⟩
  | 20 => ⟨S8, .i32⟩
  | 21 => ⟨S8x1, .i32⟩
  | 22 => ⟨S8x1, .i32⟩
  | 23 => ⟨S8x2, .i32⟩
  | 24 => ⟨S8x4x96x12544, .f32⟩
  | 25 => ⟨S8x96x4x12544, .f32⟩
  | 26 => ⟨S8x96x50176, .f32⟩
  | 27 => ⟨S112, .i32⟩
  | 28 => ⟨S1x112, .i32⟩
  | 29 => ⟨S_, .i32⟩
  | 30 => ⟨S1x112, .i32⟩
  | 31 => ⟨S1x112, .i32⟩
  | 32 => ⟨S112, .i32⟩
  | 33 => ⟨S1x112, .i32⟩
  | 34 => ⟨S_, .i32⟩
  | 35 => ⟨S1x112, .i32⟩
  | 36 => ⟨S1x112, .i32⟩
  | 37 => ⟨S_, .i32⟩
  | 38 => ⟨S1x112, .i32⟩
  | 39 => ⟨S1x112, .i32⟩
  | 40 => ⟨S112, .i32⟩
  | 41 => ⟨S112x1, .i32⟩
  | 42 => ⟨S_, .i32⟩
  | 43 => ⟨S112x1, .i32⟩
  | 44 => ⟨S112x1, .i32⟩
  | 45 => ⟨S112, .i32⟩
  | 46 => ⟨S112x1, .i32⟩
  | 47 => ⟨S_, .i32⟩
  | 48 => ⟨S112x1, .i32⟩
  | 49 => ⟨S112x1, .i32⟩
  | 50 => ⟨S_, .i32⟩
  | 51 => ⟨S112x1, .i32⟩
  | 52 => ⟨S112x1, .i32⟩
  | 53 => ⟨S112x112, .i32⟩
  | 54 => ⟨S112x112, .i32⟩
  | 55 => ⟨S112x112, .i32⟩
  | 56 => ⟨S12544, .i32⟩
  | 57 => ⟨S112x112, .i32⟩
  | 58 => ⟨S112x112, .i32⟩
  | 59 => ⟨S112x112, .i32⟩
  | 60 => ⟨S12544, .i32⟩
  | 61 => ⟨S112x112, .i32⟩
  | 62 => ⟨S112x112, .i32⟩
  | 63 => ⟨S112x112, .i32⟩
  | 64 => ⟨S12544, .i32⟩
  | 65 => ⟨S112x112, .i32⟩
  | 66 => ⟨S112x112, .i32⟩
  | 67 => ⟨S112x112, .i32⟩
  | 68 => ⟨S12544, .i32⟩
  | 69 => ⟨S50176, .i32⟩
  | 70 => ⟨S_, .f32⟩
  | 71 => ⟨S8x96x50176, .f32⟩
  | 72 => ⟨S_, .i32⟩
  | 73 => ⟨S50176, .i32⟩
  | 74 => ⟨S50176, .i1⟩
  | 75 => ⟨S_, .i32⟩
  | 76 => ⟨S50176, .i32⟩
  | 77 => ⟨S50176, .i32⟩
  | 78 => ⟨S50176, .i32⟩
  | 79 => ⟨S50176x1, .i32⟩
  | 80 => ⟨S8x96x50176, .f32⟩
  | 81 => ⟨S8x96x224x224, .f32⟩
  | 82 => ⟨S_, .i32⟩
  | 83 => ⟨S8x96x1x224, .f32⟩
  | 84 => ⟨S8x96x1x224, .f32⟩
  | 85 => ⟨S8x96x1x224, .f32⟩
  | 86 => ⟨S8x96x225x224, .f32⟩
  | 87 => ⟨S8x96x1x224, .f32⟩
  | 88 => ⟨S8x96x1x224, .f32⟩
  | 89 => ⟨S8x96x1x224, .f32⟩
  | 90 => ⟨S8x96x226x224, .f32⟩
  | 91 => ⟨S8x96x226x1, .f32⟩
  | 92 => ⟨S8x96x226x1, .f32⟩
  | 93 => ⟨S8x96x226x1, .f32⟩
  | 94 => ⟨S8x96x226x225, .f32⟩
  | 95 => ⟨S8x96x226x1, .f32⟩
  | 96 => ⟨S8x96x226x1, .f32⟩
  | 97 => ⟨S8x96x226x1, .f32⟩
  | 98 => ⟨S8x96x226x226, .f32⟩
  | 99 => ⟨S_, .f32⟩
  | 100 => ⟨S8x96x224x224, .f32⟩
  | 101 => ⟨S8x96x224x224, .f32⟩
  | 102 => ⟨S96x1x1x1, .f32⟩
  | 103 => ⟨S96, .f32⟩
  | 104 => ⟨S1x96x1x1, .f32⟩
  | 105 => ⟨S8x96x224x224, .f32⟩
  | 106 => ⟨S8x96x224x224, .f32⟩
  | 107 => ⟨S8x96x224x224, .f32⟩
  | 108 => ⟨S8x96x224x224, .f32⟩
  | 109 => ⟨S96x1x1x1, .f32⟩
  | 110 => ⟨S96, .f32⟩
  | 111 => ⟨S1x96x1x1, .f32⟩
  | 112 => ⟨S8x96x224x224, .f32⟩
  | 113 => ⟨S8x96x224x224, .f32⟩
  | 114 => ⟨S8x96x224x224, .f32⟩
  | 115 => ⟨S8x96x224x224, .f32⟩
  | 116 => ⟨S96x1x1x1, .f32⟩
  | 117 => ⟨S96, .f32⟩
  | 118 => ⟨S1x96x1x1, .f32⟩
  | 119 => ⟨S8x96x224x224, .f32⟩
  | 120 => ⟨S8x96x224x224, .f32⟩
  | 121 => ⟨S8x96x224x224, .f32⟩
  | 122 => ⟨S8x96x224x224, .f32⟩
  | 123 => ⟨S96x1x1x1, .f32⟩
  | 124 => ⟨S96, .f32⟩
  | 125 => ⟨S1x96x1x1, .f32⟩
  | 126 => ⟨S8x96x224x224, .f32⟩
  | 127 => ⟨S8x96x224x224, .f32⟩
  | _ => ⟨S8x96x112x112, .f32⟩

abbrev hbmTy0_1 (i : Nat) : BufTy := match i % 128 with
  | 0 => ⟨S8x96x224x224, .f32⟩
  | 1 => ⟨S8x96x224x224, .f32⟩
  | 2 => ⟨S96x1x1x1, .f32⟩
  | 3 => ⟨S96, .f32⟩
  | 4 => ⟨S1x96x1x1, .f32⟩
  | 5 => ⟨S8x96x224x224, .f32⟩
  | 6 => ⟨S8x96x224x224, .f32⟩
  | 7 => ⟨S8x96x224x224, .f32⟩
  | 8 => ⟨S8x96x224x224, .f32⟩
  | 9 => ⟨S96x1x1x1, .f32⟩
  | 10 => ⟨S96, .f32⟩
  | 11 => ⟨S1x96x1x1, .f32⟩
  | 12 => ⟨S8x96x224x224, .f32⟩
  | 13 => ⟨S8x96x224x224, .f32⟩
  | 14 => ⟨S8x96x224x224, .f32⟩
  | 15 => ⟨S8x96x224x224, .f32⟩
  | 16 => ⟨S96x1x1x1, .f32⟩
  | 17 => ⟨S96, .f32⟩
  | 18 => ⟨S1x96x1x1, .f32⟩
  | 19 => ⟨S8x96x224x224, .f32⟩
  | 20 => ⟨S8x96x224x224, .f32⟩
  | 21 => ⟨S8x96x224x224, .f32⟩
  | 22 => ⟨S8x96x224x224, .f32⟩
  | 23 => ⟨S96x1x1x1, .f32⟩
  | 24 => ⟨S96, .f32⟩
  | 25 => ⟨S1x96x1x1, .f32⟩
  | 26 => ⟨S8x96x224x224, .f32⟩
  | 27 => ⟨S8x96x224x224, .f32⟩
  | 28 => ⟨S8x96x224x224, .f32⟩
  | 29 => ⟨S8x96x224x224, .f32⟩
  | 30 => ⟨S96x1x1x1, .f32⟩
  | 31 => ⟨S96, .f32⟩
  | 32 => ⟨S1x96x1x1, .f32⟩
  | 33 => ⟨S8x96x224x224, .f32⟩
  | 34 => ⟨S8x96x224x224, .f32⟩
  | 35 => ⟨S8x96x224x224, .f32⟩
  | _ => ⟨S8x96x112x112, .f32⟩

abbrev hbmTy (i : Nat) : BufTy := match i / 128 with
  | 0 => hbmTy0_0 i
  | 1 => hbmTy0_1 i
  | _ => ⟨S8x96x112x112, .f32⟩

abbrev bufTy : (tb : Table) → Fin (tcTables nBuf tb) → BufTy
  | .hbm, ⟨i, _⟩ => hbmTy i
  | _, _ => ⟨S8x96x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_v35 : Ref sig .tc := ⟨.hbm, 48, rfl⟩
abbrev main_v36 : Ref sig .tc := ⟨.hbm, 49, rfl⟩
abbrev main_c_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_c_10 : Ref sig .tc := ⟨.hbm, 72, rfl⟩
abbrev main_v57 : Ref sig .tc := ⟨.hbm, 73, rfl⟩
abbrev main_v58 : Ref sig .tc := ⟨.hbm, 74, rfl⟩
abbrev main_c_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_12 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_v12 : Ref sig .tc := ⟨.hbm, 95, rfl⟩
abbrev main_call0_v13 : Ref sig .tc := ⟨.hbm, 96, rfl⟩
abbrev main_call0_v14 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩

abbrev nD : Nat := 1
abbrev τ : Topo := Topo.v7x

variable {F : FTy → Type} [FloatOps F]
-- ==== Proof.PreFacts.lean ====
/-
  The two preconditions, decoded: every phase below four, and the filter the outer product of (1/4, 1/2, 1/4).
-/
module

public import proofs.«01_k».proof.Proof.Gen.Pre_phase_range
public import proofs.«01_k».proof.Proof.Gen.Pre_phases_and_blur
public import Idealize.ShloMosaic.Lib.Pointwise

@[expose] public section

set_option maxRecDepth 16384

noncomputable section

namespace Cert.Blur

open Idealize.ShloMosaic

/-- A word that the printed range test admits is below four. -/
theorem lt_four_of_test (v : BitVec 32) (e : IntOp.andi (IntOp.cmpi .sge v 0#32) (IntOp.cmpi .slt v 4#32) = 1#1) : v.toNat < 4 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The range precondition says every phase is below four. -/
theorem phase_lt_of_range {F : FTy → Type} [FloatOps F] (x : FVec F ⟨4, ![8, 96, 112, 112]⟩ .f32) (p : IVec ⟨1, ![8]⟩ 32)
    (f : FVec F ⟨4, ![96, 1, 3, 3]⟩ .f32) (h : Pre_phase_range.fn x p f = fun _ => 1#1) (y : Shape.Idx ⟨1, ![8]⟩) : (p y).toNat < 4 := by
  have e := congrFun h y
  simp only [Pre_phase_range.fn, andi, cmpi, broadcastInDim, constantI] at e
  exact lt_four_of_test _ e

/-- So does the first part of the value claim's precondition. -/
theorem phase_lt_of_blur {F : FTy → Type} [FloatOps F] (x : FVec F ⟨4, ![8, 96, 112, 112]⟩ .f32) (p : IVec ⟨1, ![8]⟩ 32)
    (f : FVec F ⟨4, ![96, 1, 3, 3]⟩ .f32) (h : (Pre_phases_and_blur.fn x p f).1 = fun _ => 1#1) (y : Shape.Idx ⟨1, ![8]⟩) : (p y).toNat < 4 := by
  have e := congrFun h y
  simp only [Pre_phases_and_blur.fn, andi, cmpi, broadcastInDim, constantI] at e
  exact lt_four_of_test _ e

/-- One half, as an extended real. -/
def half : EReal := ((1 / 2 : ℝ) : EReal)
/-- One quarter, as an extended real. -/
def quarter : EReal := ((1 / 4 : ℝ) : EReal)

/-- The pattern of the f32 constant one half denotes one half. -/
theorem ofBits_half : Ideal.ofBits .f32 0x3F000000#32 = half := by
  unfold half; simp [Ideal.ofBits, Ideal.ieee, -EReal.coe_mul]; norm_num
/-- The pattern of the f32 constant one quarter denotes one quarter. -/
theorem ofBits_quarter : Ideal.ofBits .f32 0x3E800000#32 = quarter := by
  unfold quarter; simp [Ideal.ofBits, Ideal.ieee, -EReal.coe_mul]; norm_num

/-- The blur's one-dimensional weight at tap `i`: one half at the centre, one quarter beside it. -/
def tap (i : Fin 3) : EReal := if i.val = 1 then half else quarter

/-- The second part of the value claim's precondition: the filter at taps `i`, `j` is the product of the two weights. -/
theorem filter_of_blur (x : FVec Ideal ⟨4, ![8, 96, 112, 112]⟩ .f32) (p : IVec ⟨1, ![8]⟩ 32)
    (f : FVec Ideal ⟨4, ![96, 1, 3, 3]⟩ .f32) (h : (Pre_phases_and_blur.fn x p f).2 = fun _ => 1#1)
    (c : Fin 96) (i j : Fin 3) : f (ix4 c 0 i j) = tap i * tap j := by
  have e := congrFun h (ix4 c 0 i j)
  have ofBool_eq_one (p : Bool) : (BitVec.ofBool p = 1#1) ↔ p = true := by cases p <;> decide
  pointwise [Pre_phases_and_blur.fn] at e
  simp only [Ideal.cmp, ofBool_eq_one, decide_eq_true_eq] at e
  unfold tap
  have hw : ∀ k : Fin 3, Ideal.ofBits .f32 (Pre_phases_and_blur.lit0 k) = if k.val = 1 then half else quarter := fun k => by
    fin_cases k
    · exact ofBits_quarter
    · exact ofBits_half
    · exact ofBits_quarter
  have hr : ∀ k : Fin 3, Pre_phases_and_blur.S3.rowMajor (ix1 k) = k := fun k => by fin_cases k <;> rfl
  rw [hr, hr, hw, hw] at e
  exact e

end Cert.Blur

end
-- ==== Proof.RefPad.lean ====
/-
  The reference's reflected border: one row and one column on every side.
-/
module

public import proofs.«01_k».proof.Proof.Gen.ReferenceIdeal.Read
public import Idealize.ShloMosaic.Lib.Pointwise

@[expose] public section

noncomputable section

namespace Cert.Blur

open Idealize.ShloMosaic Cert.ReferenceIdeal Cert.ReferenceIdeal.Read

/-- The row (or column) of the image that a row (or column) of the padded image repeats. -/
def mirror (n : Nat) : Nat := if n = 0 then 1 else if n = 225 then 222 else n - 1

/-- A mirrored line is a line of the image. -/
theorem mirror_lt (n : Nat) (h : n < 226) : mirror n < 224 := by
  unfold mirror; split_ifs <;> omega

variable (x0 : (⟨S8x96x112x112, .f32⟩ : BufTy).Contents (Elt Ideal)) (x1 : (⟨S8, .i32⟩ : BufTy).Contents (Elt Ideal))

/-- The image with the reflected row above it. -/
theorem pad_top (b : Fin 8) (c : Fin 96) (r : Fin 225) (s : Fin 224) :
    val_main_call0_v3 x0 x1 (ix4 b c r s) =
      val_main_v64 x0 x1 (ix4 b c ⟨if r.val = 0 then 1 else r.val - 1, by split_ifs <;> omega⟩ s) := by
  have hr := r.isLt
  unfold val_main_call0_v3 val_main_call0_v2 val_main_call0_v1
  generalize val_main_v64 x0 x1 = y
  pointwise
  by_cases h : r.val = 0
  · rw [dif_pos (by omega)]
    refine congrArg y ?_
    funext a; apply Fin.ext
    fin_cases a
    · rfl
    · rfl
    · show 1 = if r.val = 0 then 1 else r.val - 1; rw [if_pos h]
    · rfl
  · rw [dif_neg (by omega)]
    refine congrArg y ?_
    funext a; apply Fin.ext
    fin_cases a
    · rfl
    · rfl
    · show r.val - 1 = if r.val = 0 then 1 else r.val - 1; rw [if_neg h]
    · rfl

/-- The image with both reflected rows. -/
theorem pad_rows (b : Fin 8) (c : Fin 96) (r : Fin 226) (s : Fin 224) :
    val_main_call0_v7 x0 x1 (ix4 b c r s) =
      val_main_v64 x0 x1 (ix4 b c ⟨mirror r.val, mirror_lt _ r.isLt⟩ s) := by
  have hr := r.isLt
  have hy := pad_top x0 x1
  unfold val_main_call0_v7 val_main_call0_v6 val_main_call0_v5
  generalize val_main_call0_v3 x0 x1 = y at *
  pointwise
  by_cases h : r.val < 225
  · rw [dif_pos h]
    refine (hy _ _ _ _).trans (congrArg (val_main_v64 x0 x1) ?_)
    funext a; apply Fin.ext
    fin_cases a
    · rfl
    · rfl
    · show (if r.val = 0 then 1 else r.val - 1) = mirror r.val
      unfold mirror; rw [if_neg (show ¬ r.val = 225 by omega)]
    · rfl
  · rw [dif_neg h]
    refine (hy b c 223 s).trans (congrArg (val_main_v64 x0 x1) ?_)
    funext a; apply Fin.ext
    fin_cases a
    · rfl
    · rfl
    · show (if (223 : Nat) = 0 then 1 else 223 - 1) = mirror r.val
      unfold mirror; rw [if_neg (show ¬ r.val = 0 by omega), if_pos (show r.val = 225 by omega), if_neg (by decide)]
    · rfl

/-- The image with both reflected rows and the left column. -/
theorem pad_left (b : Fin 8) (c : Fin 96) (r : Fin 226) (s : Fin 225) :
    val_main_call0_v11 x0 x1 (ix4 b c r s) =
      val_main_v64 x0 x1 (ix4 b c ⟨mirror r.val, mirror_lt _ r.isLt⟩ ⟨if s.val = 0 then 1 else s.val - 1, by split_ifs <;> omega⟩) := by
  have hs := s.isLt
  have hy := pad_rows x0 x1
  unfold val_main_call0_v11 val_main_call0_v10 val_main_call0_v9
  generalize val_main_call0_v7 x0 x1 = y at *
  pointwise
  by_cases h : s.val = 0
  · rw [dif_pos (by omega)]
    refine (hy b c r 1).trans (congrArg (val_main_v64 x0 x1) ?_)
    funext a; apply Fin.ext
    fin_cases a
    · rfl
    · rfl
    · rfl
    · show 1 = if s.val = 0 then 1 else s.val - 1; rw [if_pos h]
  · rw [dif_neg (by omega)]
    refine (hy _ _ _ _).trans (congrArg (val_main_v64 x0 x1) ?_)
    funext a; apply Fin.ext
    fin_cases a
    · rfl
    · rfl
    · rfl
    · show s.val - 1 = if s.val = 0 then 1 else s.val - 1; rw [if_neg h]

/-- The padded image repeats the image, mirrored at its first and last rows and columns. -/
theorem padded (b : Fin 8) (c : Fin 96) (r s : Fin 226) :
    val_main_v65 x0 x1 (ix4 b c r s) =
      val_main_v64 x0 x1 (ix4 b c ⟨mirror r.val, mirror_lt _ r.isLt⟩ ⟨mirror s.val, mirror_lt _ s.isLt⟩) := by
  have hs := s.isLt
  have hy := pad_left x0 x1
  unfold val_main_v65 val_main_call0_v14 val_main_call0_v13
  generalize val_main_call0_v11 x0 x1 = y at *
  pointwise
  by_cases h : s.val < 225
  · rw [dif_pos h]
    refine (hy _ _ _ _).trans (congrArg (val_main_v64 x0 x1) ?_)
    funext a; apply Fin.ext
    fin_cases a
    · rfl
    · rfl
    · rfl
    · show (if s.val = 0 then 1 else s.val - 1) = mirror s.val
      unfold mirror; rw [if_neg (show ¬ s.val = 225 by omega)]
  · rw [dif_neg h]
    refine (hy b c r 223).trans (congrArg (val_main_v64 x0 x1) ?_)
    funext a; apply Fin.ext
    fin_cases a
    · rfl
    · rfl
    · rfl
    · show (if (223 : Nat) = 0 then 1 else 223 - 1) = mirror s.val
      unfold mirror; rw [if_neg (show ¬ s.val = 0 by omega), if_pos (show s.val = 225 by omega), if_neg (by decide)]

end Cert.Blur
-- ==== Proof.Blur.lean ====
/-
  The equation behind the claim, over extended reals: a 3×3 blur of an upsampled image with a reflected border is a
  one-dimensional blur of its columns followed by one of its rows, and each of those needs two taps at most.
-/
module

public import proofs.«01_k».proof.Proof.RefPad
public import proofs.«01_k».proof.Proof.PreFacts

@[expose] public section

noncomputable section

namespace Cert.Blur

open Idealize.ShloMosaic

/-- One half is not negative. -/
theorem half_nonneg : (0 : EReal) ≤ half := EReal.coe_nonneg.2 (by norm_num)
/-- One quarter is not negative. -/
theorem quarter_nonneg : (0 : EReal) ≤ quarter := EReal.coe_nonneg.2 (by norm_num)

/-- One half distributes over every sum of extended reals. -/
theorem half_mul_add (x y : EReal) : half * (x + y) = half * x + half * y :=
  EReal.left_distrib_of_nonneg_of_ne_top half_nonneg (EReal.coe_ne_top _) x y
/-- One quarter distributes over every sum of extended reals. -/
theorem quarter_mul_add (x y : EReal) : quarter * (x + y) = quarter * x + quarter * y :=
  EReal.left_distrib_of_nonneg_of_ne_top quarter_nonneg (EReal.coe_ne_top _) x y
/-- Two quarters of an extended real are one half of it. -/
theorem quarter_twice (x : EReal) : quarter * x + quarter * x = half * x := by
  rw [← EReal.right_distrib_of_nonneg quarter_nonneg quarter_nonneg]
  congr 1
  unfold quarter half
  rw [← EReal.coe_add]
  norm_num

/-- A one-dimensional signal spread over the places of parity `e`, zero between them. -/
def spread (e : Nat) (f : Nat → EReal) (t : Nat) : EReal := if t % 2 = e then f (t / 2) else 0

/-- The one-dimensional blur of a signal `g` of length 224 with a reflected border, at place `s`. -/
def blur1 (g : Nat → EReal) (s : Nat) : EReal :=
  quarter * g (mirror s) + half * g (mirror (s + 1)) + quarter * g (mirror (s + 2))

/-- The neighbour that matters at a place of the other parity: the next place for parity 0, the previous one for parity 1,
    kept inside the signal. -/
def side (e s : Nat) : Nat := if e = 0 then min (s / 2 + 1) 111 else s / 2 - 1

/-- The same blur of a spread signal, with the taps that meet zeros left out. -/
def twoTap (e : Nat) (f : Nat → EReal) (s : Nat) : EReal :=
  if s % 2 = e then half * f (s / 2) else quarter * f (s / 2) + quarter * f (side e s)

/-- Blurring a spread signal takes two taps at most. -/
theorem blur1_spread (e : Nat) (he : e < 2) (f : Nat → EReal) (s : Nat) (hs : s < 224) :
    blur1 (spread e f) s = twoTap e f s := by
  have m0 : mirror s = if s = 0 then 1 else s - 1 := by
    unfold mirror; rw [if_neg (show ¬ s = 225 by omega)]
  have m1 : mirror (s + 1) = s := by
    unfold mirror; rw [if_neg (by omega), if_neg (by omega)]; omega
  have m2 : mirror (s + 2) = if s = 223 then 222 else s + 1 := by
    unfold mirror; rw [if_neg (by omega)]; split_ifs <;> omega
  unfold blur1 spread twoTap
  rw [m1]
  by_cases h : s % 2 = e
  · rw [if_pos h, if_pos h, if_neg, if_neg, mul_zero, zero_add, add_zero]
    · rw [m2]; split_ifs <;> omega
    · rw [m0]; split_ifs <;> omega
  · rw [if_neg h, if_neg h, if_pos, if_pos, mul_zero, add_zero]
    · unfold side
      by_cases h0 : e = 0
      · subst h0
        rw [if_pos rfl, show mirror s / 2 = s / 2 by rw [m0]; split_ifs <;> omega,
          show mirror (s + 2) / 2 = min (s / 2 + 1) 111 by rw [m2]; split_ifs <;> omega]
      · rw [if_neg h0, show mirror s / 2 = s / 2 - 1 by rw [m0]; split_ifs <;> omega,
          show mirror (s + 2) / 2 = s / 2 by rw [m2]; split_ifs <;> omega, add_comm]
    · rw [m2]; split_ifs <;> omega
    · rw [m0]; split_ifs <;> omega

/-- An image spread over the places of row parity `a` and column parity `e`. -/
def spread2 (a e : Nat) (f : Nat → Nat → EReal) (r s : Nat) : EReal :=
  if r % 2 = a ∧ s % 2 = e then f (r / 2) (s / 2) else 0

/-- The two-dimensional blur of an image with a reflected border: nine weighted taps added in order. -/
def blur9 (g : Nat → Nat → EReal) (r s : Nat) : EReal :=
  g (mirror r) (mirror s) * (quarter * quarter) + g (mirror r) (mirror (s + 1)) * (quarter * half)
  + g (mirror r) (mirror (s + 2)) * (quarter * quarter) + g (mirror (r + 1)) (mirror s) * (half * quarter)
  + g (mirror (r + 1)) (mirror (s + 1)) * (half * half) + g (mirror (r + 1)) (mirror (s + 2)) * (half * quarter)
  + g (mirror (r + 2)) (mirror s) * (quarter * quarter) + g (mirror (r + 2)) (mirror (s + 1)) * (quarter * half)
  + g (mirror (r + 2)) (mirror (s + 2)) * (quarter * quarter)

/-- The nine taps are the blur of the columns followed by the blur of the rows. -/
theorem blur9_separates (g : Nat → Nat → EReal) (r s : Nat) :
    blur9 g r s = blur1 (fun t => blur1 (g t) s) r := by
  have e : ∀ x u v : EReal, x * (u * v) = u * (v * x) := fun x u v => by rw [mul_comm x, mul_assoc]
  unfold blur9 blur1
  simp only [half_mul_add, quarter_mul_add, e]
  simp only [add_assoc]

/-- Blurring a spread image: two taps at most in each direction. -/
theorem blur9_spread2 (a e : Nat) (ha : a < 2) (he : e < 2) (f : Nat → Nat → EReal) (r s : Nat) (hr : r < 224) (hs : s < 224) :
    blur9 (spread2 a e f) r s = twoTap a (fun i => twoTap e (f i) s) r := by
  rw [blur9_separates, ← blur1_spread a ha _ r hr]
  congr 1
  funext t
  unfold spread
  by_cases h : t % 2 = a
  · rw [if_pos h]; beta_reduce; rw [← blur1_spread e he _ s hs]
    congr 1
    funext u
    unfold spread2 spread
    simp only [h, true_and]
  · rw [if_neg h]
    unfold blur1 spread2
    rw [if_neg (fun hh => h hh.1), if_neg (fun hh => h hh.1), if_neg (fun hh => h hh.1)]
    simp

end Cert.Blur
-- ==== Proof.TableWord.lean ====
/-
  The kernel's literal table: two 112 × 224 matrices, one per column parity of the phase.
-/
module

public import proofs.«01_k».proof.KernelIdeal

@[expose] public section

namespace Cert.Blur

/-- The word the table holds for column parity `e`, input column `k` and output column `s`: one half where `s` is the
    place of input column `k`, one quarter beside it, one half where the reflected border folds two quarters together,
    zero elsewhere. -/
def tableWord (e k s : Nat) : BitVec 32 :=
  if s % 2 = e then (if s / 2 = k then 0x3F000000#32 else 0#32)
  else
    let a := s / 2
    let b := if e = 0 then min (s / 2 + 1) 111 else s / 2 - 1
    if a = b then (if k = a then 0x3F000000#32 else 0#32)
    else if k = a then 0x3E800000#32
    else if k = b then 0x3E800000#32
    else 0#32

/-- Entries `n` below a bound of the printed table agree with `tableWord` at `n`'s coordinates. -/
def agreeUpTo (f : Nat → BitVec 32) (lo : Nat) : Nat → Bool
  | 0 => true
  | n + 1 => Nat.beq (f (lo + n)).toNat (tableWord ((lo + n) / 25088) ((lo + n) / 224 % 112) ((lo + n) % 224)).toNat && agreeUpTo f lo n

/-- What the check says of each entry. -/
theorem agree_at (f : Nat → BitVec 32) (lo n : Nat) (h : agreeUpTo f lo n = true) (i : Nat) (hi : i < n) :
    f (lo + i) = tableWord ((lo + i) / 25088) ((lo + i) / 224 % 112) ((lo + i) % 224) := by
  induction n with
  | zero => omega
  | succ n ih =>
    rw [agreeUpTo, Bool.and_eq_true] at h
    by_cases e : i = n
    · subst e; exact BitVec.eq_of_toNat_eq (Nat.eq_of_beq_eq_true h.1)
    · exact ih h.2 (by omega)

end Cert.Blur
-- ==== Proof.KerBlock.lean ====
/-
  What one grid point of the kernel stores, at one element.
-/
module

public import proofs.«01_k».proof.Proof.Gen.KernelIdeal.Frame
public import proofs.«01_k».proof.Proof.Blur
public import proofs.«01_k».proof.Proof.TableWord

@[expose] public section

noncomputable section

namespace Cert.KernelIdeal.Blur

open Idealize.ShloMosaic Cert.KernelIdeal Cert.KernelIdeal.Gen Cert.Blur

/-- The parity word of the kernel's body, and the test of it against zero. -/
def parityBit (w : BitVec 32) : BitVec 1 :=
  let two : BitVec 32 := Scalar.select (Scalar.cmpi .eq 2#32 0#32) 1#32 2#32
  let rem : BitVec 32 := Scalar.remsi w two
  Scalar.cmpi .eq (Scalar.select (Scalar.andi (Scalar.xori (Scalar.cmpi .slt rem 0#32) (Scalar.cmpi .slt two 0#32)) (Scalar.cmpi .ne rem 0#32)) (Scalar.addi rem two) rem) 0#32

/-- The test holds exactly when the word's parity is zero. -/
theorem parityBit_eq (w : BitVec 32) (h : w.toNat < 4) : parityBit w = if w.toNat % 2 = 0 then 1#1 else 0#1 := by
  have : w = 0#32 ∨ w = 1#32 ∨ w = 2#32 ∨ w = 3#32 := by
    rcases (show w.toNat = 0 ∨ w.toNat = 1 ∨ w.toNat = 2 ∨ w.toNat = 3 by omega) with e | e | e | e
    · exact Or.inl (BitVec.eq_of_toNat_eq e)
    · exact Or.inr (Or.inl (BitVec.eq_of_toNat_eq e))
    · exact Or.inr (Or.inr (Or.inl (BitVec.eq_of_toNat_eq e)))
    · exact Or.inr (Or.inr (Or.inr (BitVec.eq_of_toNat_eq e)))
  rcases this with rfl | rfl | rfl | rfl <;> decide

/-- The columns' blur, the kernel's one product of matrices: rows of the block against the table's matrix. -/
def columns (X : Vec Ideal S1x48x112x112 .f32) (T : Vec Ideal S1x112x224 .f32) : FVec Ideal S48x112x224 .f32 :=
  shapeCast S48x112x224
    (matmul dot_S5376x112_S112x224_S5376x224_1_0_0_1_n_n none (φ₁ := .f32) (φ₂ := .f32)
      (shapeCast S5376x112 (shapeCast S48x112x112 X shapeCasts_S1x48x112x112_S48x112x112) shapeCasts_S48x112x112_S5376x112)
      (shapeCast S112x224 T shapeCasts_S1x112x224_S112x224) (constant S5376x224 .f32 0x00000000#32))
    shapeCasts_S5376x224_S48x112x224

/-- Each row of `M` replaced by the next one, the last kept. -/
def below (M : FVec Ideal S48x112x224 .f32) : FVec Ideal S48x112x224 .f32 :=
  concatenate S48x112x224 1
    [⟨S48x111x224, extractStridedSlice S48x111x224 ![0, 1, 0] M slices_S48x112x224_o0_1_0_S48x111x224⟩,
     ⟨S48x1x224, extractStridedSlice S48x1x224 ![0, 111, 0] M slices_S48x112x224_o0_111_0_S48x1x224⟩]
    concatenates_S48x111x224_S48x1x224_S48x112x224_d1

/-- Each row of `M` replaced by the one before it, the first kept. -/
def above (M : FVec Ideal S48x112x224 .f32) : FVec Ideal S48x112x224 .f32 :=
  concatenate S48x112x224 1
    [⟨S48x1x224, extractStridedSlice S48x1x224 ![0, 0, 0] M slices_S48x112x224_o0_0_0_S48x1x224⟩,
     ⟨S48x111x224, extractStridedSlice S48x111x224 ![0, 0, 0] M slices_S48x112x224_o0_0_0_S48x111x224⟩]
    concatenates_S48x1x224_S48x111x224_S48x112x224_d1

/-- Half of `M`: the rows of the phase's parity. -/
def halved (M : FVec Ideal S48x112x224 .f32) : FVec Ideal S48x112x224 .f32 :=
  mulf (broadcast S48x112x224 (Scalar.ofBits .f32 0x3F000000#32)) M

/-- A quarter of `M` and its neighbour rows: the rows of the other parity. -/
def mixed (M N : FVec Ideal S48x112x224 .f32) : FVec Ideal S48x112x224 .f32 :=
  mulf (broadcast S48x112x224 (Scalar.ofBits .f32 0x3E800000#32)) (addf M N)

/-- Even rows beside odd rows, as the kernel lays them in one line. -/
def laid (E O : FVec Ideal S48x112x224 .f32) : FVec Ideal S1x48x112x448 .f32 :=
  shapeCast S1x48x112x448
    (concatenate S48x112x448 2 [⟨S48x112x224, E⟩, ⟨S48x112x224, O⟩] concatenates_S48x112x224_S48x112x224_S48x112x448_d2)
    shapeCasts_S48x112x448_S1x48x112x448

/-- The stored value in these words. -/
theorem stored_eq (w : BitVec 32) (X : Vec Ideal S1x48x112x112 .f32) (T : Vec Ideal S1x112x224 .f32) :
    k0_pay1 (F := Ideal) w X T =
      laid (Scalar.select (parityBit w) (halved (columns X T)) (mixed (columns X T) (Scalar.select (parityBit w) (below (columns X T)) (above (columns X T)))))
        (Scalar.select (parityBit w) (mixed (columns X T) (Scalar.select (parityBit w) (below (columns X T)) (above (columns X T)))) (halved (columns X T))) := rfl

/-- The product at one element: a sum over the input's columns. -/
theorem columns_at (X : Vec Ideal S1x48x112x112 .f32) (T : Vec Ideal S1x112x224 .f32) (c : Fin 48) (i : Fin 112) (s : Fin 224) :
    columns X T (ix3 c i s) = ∑ k : Fin 112, X (ix4 0 c i k) * T (ix3 0 k s) := by
  have hc := c.isLt
  have hi := i.isLt
  pointwise [columns]

/-- The next row, the last row its own next. -/
theorem below_at (M : FVec Ideal S48x112x224 .f32) (c : Fin 48) (i : Fin 112) (s : Fin 224) :
    below M (ix3 c i s) = M (ix3 c ⟨min (i.val + 1) 111, by omega⟩ s) := by
  have hi := i.isLt
  pointwise [below]
  by_cases h : i.val < 111
  · rw [dif_pos h]
    exact congrArg (fun k => M (ix3 c k s)) (Fin.ext (show 1 + i.val = min (i.val + 1) 111 by omega))
  · rw [dif_neg h]
    exact congrArg (fun k => M (ix3 c k s)) (Fin.ext (show 111 + (i.val - 111) = min (i.val + 1) 111 by omega))

/-- The row before, the first row its own predecessor. -/
theorem above_at (M : FVec Ideal S48x112x224 .f32) (c : Fin 48) (i : Fin 112) (s : Fin 224) :
    above M (ix3 c i s) = M (ix3 c ⟨i.val - 1, by omega⟩ s) := by
  pointwise [above]
  by_cases h : i.val < 1
  · rw [dif_pos h]
    exact congrArg (fun k => M (ix3 c k s)) (Fin.ext (show i.val = i.val - 1 by omega))
  · rw [dif_neg h]

/-- One line of the stored block: its first half an even row, its second half an odd one. -/
theorem laid_at (E O : FVec Ideal S48x112x224 .f32) (z : Fin 1) (c : Fin 48) (i : Fin 112) (q : Fin 448) :
    laid E O (ix4 z c i q) = if h : q.val < 224 then E (ix3 c i ⟨q.val, h⟩) else O (ix3 c i ⟨q.val - 224, by omega⟩) := by
  pointwise [laid]

/-- Channel `c` of a block as a function of two numbers, zero outside the image. -/
def blockImage (X : Vec Ideal S1x48x112x112 .f32) (c : Fin 48) (i j : Nat) : EReal :=
  if h : i < 112 ∧ j < 112 then X (ix4 0 c ⟨i, h.1⟩ ⟨j, h.2⟩) else 0

/-- An all-zero pattern denotes zero. -/
theorem ofBits_zero : Ideal.ofBits .f32 0#32 = 0 := Ideal.ofBits_zero_f32

/-- Against the table's matrix for column parity `e`, the sum over the input's columns keeps two taps at most. -/
theorem columns_two (e : Nat) (X : Vec Ideal S1x48x112x112 .f32) (T : Vec Ideal S1x112x224 .f32)
    (hT : ∀ (k : Fin 112) (s : Fin 224), T (ix3 0 k s) = Ideal.ofBits .f32 (tableWord e k.val s.val))
    (c : Fin 48) (i : Fin 112) (s : Fin 224) :
    columns X T (ix3 c i s) = twoTap e (blockImage X c i.val) s.val := by
  have hs := s.isLt
  have img : ∀ (k : Nat) (hk : k < 112), blockImage X c i.val k = X (ix4 0 c i ⟨k, hk⟩) := fun k hk =>
    dif_pos ⟨i.isLt, hk⟩
  rw [columns_at]
  simp only [hT]
  unfold twoTap
  by_cases h : s.val % 2 = e
  · rw [if_pos h, img _ (by omega), mul_comm]
    have t : ∀ k : Fin 112, tableWord e k.val s.val = if s.val / 2 = k.val then 0x3F000000#32 else 0#32 := fun k => if_pos h
    rw [Finset.sum_eq_single (⟨s.val / 2, by omega⟩ : Fin 112)]
    · rw [t, if_pos rfl, ofBits_half]
    · intro k _ hk
      rw [t, if_neg (fun hh => hk (Fin.ext hh.symm)), ofBits_zero, mul_zero]
    · intro hh; exact absurd (Finset.mem_univ _) hh
  · have hb : side e s.val < 112 := by unfold side; split_ifs <;> omega
    have t : ∀ k : Fin 112, tableWord e k.val s.val =
        if s.val / 2 = side e s.val then (if k.val = s.val / 2 then 0x3F000000#32 else 0#32)
        else if k.val = s.val / 2 then 0x3E800000#32 else if k.val = side e s.val then 0x3E800000#32 else 0#32 := fun k => if_neg h
    rw [if_neg h, img _ (by omega), img _ hb]
    by_cases hab : s.val / 2 = side e s.val
    · simp only [← hab]
      rw [quarter_twice, mul_comm, Finset.sum_eq_single (⟨s.val / 2, by omega⟩ : Fin 112)]
      · rw [t, if_pos hab, if_pos rfl, ofBits_half]
      · intro k _ hk
        rw [t, if_pos hab, if_neg (fun hh => hk (Fin.ext hh)), ofBits_zero, mul_zero]
      · intro hh; exact absurd (Finset.mem_univ _) hh
    · rw [Fintype.sum_eq_add (⟨s.val / 2, by omega⟩ : Fin 112) ⟨side e s.val, hb⟩ (fun hh => hab (congrArg Fin.val hh))]
      · have ta := t ⟨s.val / 2, by omega⟩
        have tb := t ⟨side e s.val, hb⟩
        rw [if_neg hab, if_pos rfl] at ta
        rw [if_neg hab, if_neg (Ne.symm hab), if_pos rfl] at tb
        rw [ta, tb, ofBits_quarter, mul_comm quarter, mul_comm quarter]
      · rintro k ⟨h1, h2⟩
        rw [t, if_neg hab, if_neg (fun hh => h1 (Fin.ext hh)), if_neg (fun hh => h2 (Fin.ext hh)), ofBits_zero, mul_zero]

/-- At a place of the signal's parity: half of one entry. -/
theorem twoTap_same (e : Nat) (f : Nat → EReal) (s : Nat) (h : s % 2 = e) : twoTap e f s = half * f (s / 2) := if_pos h
/-- At a place of the other parity: a quarter of two entries. -/
theorem twoTap_other (e : Nat) (f : Nat → EReal) (s : Nat) (h : ¬ s % 2 = e) :
    twoTap e f s = quarter * f (s / 2) + quarter * f (side e s) := if_neg h

/-- What a grid point stores at one element, where its word is a phase and its table block is the phase's matrix:
    the two blurs of the block, line `i` holding rows `2i` and `2i + 1`. -/
theorem stored_at (w : BitVec 32) (h : w.toNat < 4) (X : Vec Ideal S1x48x112x112 .f32) (T : Vec Ideal S1x112x224 .f32)
    (hT : ∀ (k : Fin 112) (s : Fin 224), T (ix3 0 k s) = Ideal.ofBits .f32 (tableWord (w.toNat / 2) k.val s.val))
    (z : Fin 1) (c : Fin 48) (i : Fin 112) (q : Fin 448) :
    k0_pay1 (F := Ideal) w X T (ix4 z c i q) =
      twoTap (w.toNat % 2) (fun i => twoTap (w.toNat / 2) (blockImage X c i) (q.val % 224)) (2 * i.val + q.val / 224) := by
  have hi := i.isLt
  have hq := q.isLt
  have hM := columns_two _ X T hT
  have hB := fun c i s => below_at (columns X T) c i s
  have hA := fun c i s => above_at (columns X T) c i s
  rw [stored_eq, laid_at, parityBit_eq w h]
  generalize columns X T = M at *
  have half_at : ∀ s : Fin 224, halved M (ix3 c i s) = half * M (ix3 c i s) := fun s => by
    show Ideal.ofBits .f32 0x3F000000#32 * _ = _
    rw [ofBits_half]
  have mix_at : ∀ (N : FVec Ideal S48x112x224 .f32) (s : Fin 224),
      mixed M N (ix3 c i s) = quarter * M (ix3 c i s) + quarter * N (ix3 c i s) := fun N s => by
    show Ideal.ofBits .f32 0x3E800000#32 * (_ + _) = _
    rw [ofBits_quarter, quarter_mul_add]
  have e1 : (2 * i.val + q.val / 224) / 2 = i.val := by omega
  by_cases hp : w.toNat % 2 = 0
  · rw [hp, if_pos rfl]
    by_cases hc : q.val < 224
    · rw [dif_pos hc]
      show halved M _ = _
      rw [half_at, hM]
      rw [twoTap_same _ _ (2 * i.val + q.val / 224) (by omega), e1, Nat.mod_eq_of_lt hc]
    · rw [dif_neg hc]
      show mixed M (below M) _ = _
      have e2 : side 0 (2 * i.val + q.val / 224) = min (i.val + 1) 111 := by unfold side; rw [if_pos rfl, e1]
      rw [mix_at, hB, hM, hM]
      rw [twoTap_other _ _ (2 * i.val + q.val / 224) (by omega), e1, e2, show q.val % 224 = q.val - 224 by omega]
  · have hp1 : w.toNat % 2 = 1 := by omega
    rw [hp1, if_neg (by decide)]
    by_cases hc : q.val < 224
    · rw [dif_pos hc]
      show mixed M (above M) _ = _
      have e2 : side 1 (2 * i.val + q.val / 224) = i.val - 1 := by unfold side; rw [if_neg (by decide), e1]
      rw [mix_at, hA, hM, hM]
      rw [twoTap_other _ _ (2 * i.val + q.val / 224) (by omega), e1, e2, Nat.mod_eq_of_lt hc]
    · rw [dif_neg hc]
      show halved M _ = _
      rw [half_at, hM]
      rw [twoTap_same _ _ (2 * i.val + q.val / 224) (by omega), e1, show q.val % 224 = q.val - 224 by omega]

end Cert.KernelIdeal.Blur
-- ==== Proof.PhaseIdeal.lean ====
/-
  What the precondition on the phases gives `KernelIdeal`: every window that reads the phase table stays inside its array.
-/
module

public import proofs.«01_k».proof.Proof.Gen.KernelIdeal.Frame

@[expose] public section

set_option maxRecDepth 16384

noncomputable section

namespace Cert.KernelIdeal.Blur

open Idealize.ShloMosaic Idealize.ShloMosaic.TcCoe Idealize.SL.Sem
open Cert.KernelIdeal Cert.KernelIdeal.Gen

variable {F : FTy → Type} [FloatOps F]

/-- A word below four is one of the four. -/
theorem word_lt_four (v : BitVec 32) (h : v.toNat < 4) : v = 0#32 ∨ v = 1#32 ∨ v = 2#32 ∨ v = 3#32 := by
  have : v = BitVec.ofNat 32 v.toNat := by simp
  rcases (by omega : v.toNat = 0 ∨ v.toNat = 1 ∨ v.toNat = 2 ∨ v.toNat = 3) with e | e | e | e <;> rw [e] at this <;> simp [this]

/-- The phase the index map reads at grid point `i`: the table's word at the batch. -/
abbrev phaseAt (pf : pre0.Contents (Elt F)) (i : grid0.Coords) : BitVec 32 :=
  pf.at 0 (Rect.unit (s := S8) (k0_off1 i) S1.size (Facts₀.k0_off1_inb i)) Facts₀.numel1_S1

/-- The floor quotient by two that the index map computes of a phase word. -/
def halfWord (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 2#32 0#32)) (Scalar.extui (Scalar.cmpi .slt 2#32 0#32))))
      (Scalar.cmpi .ne (Scalar.remsi v 2#32) 0#32))
    (Scalar.subi (Scalar.divsi v 2#32) 1#32) (Scalar.divsi v 2#32)

/-- Of a phase below four it is half the phase, rounded down. -/
theorem halfWord_toNat (v : BitVec 32) (h : v.toNat < 4) : (halfWord v).toNat = v.toNat / 2 := by
  rcases word_lt_four v h with rfl | rfl | rfl | rfl <;> decide

/-- The matrix window's block index: half the phase, rounded down. -/
theorem transform_1_eq (pf : pre0.Contents (Elt F)) (i : grid0.Coords) (h : (phaseAt pf i).toNat < 4) :
    cc0_transform_1 Facts₀.k0_off1_inb Facts₀.numel1_S1 pf i = ![(phaseAt pf i).toNat / 2, 0, 0] := by
  rw [← halfWord_toNat _ h]
  rfl

/-- The side condition of the phase table, from every phase being below four. -/
theorem ok_of_lt (m : (ℓ : Loc nD τ sig) → Buf (Elt F) ℓ)
    (h : ∀ y : S8.Idx, (m ((0 : Dev nD).tc.loc main_arg1) y).toNat < 4) : Ok m := by
  have hw : ∀ i : grid0.Coords, (phaseAt (tbl m) i).toNat < 4 := fun i => by
    have : (tbl m) 0 = m ((0 : Dev nD).tc.loc main_arg1) := V_main_arg1 m 0
    unfold phaseAt Pipeline.Prefetch.Contents.at
    rw [this]; exact h _
  intro i
  have e := transform_1_eq (tbl m) i (hw i)
  have hw := hw i
  generalize (phaseAt (tbl m) i).toNat = q at e hw
  refine ⟨fun a => ?_, Or.inl rfl⟩
  rw [e]
  fin_cases a
  · show (q / 2 + 1) * 1 ≤ 2; omega
  · show (0 + 1) * 112 ≤ 112; decide
  · show (0 + 1) * 224 ≤ 224; decide

end Cert.KernelIdeal.Blur

end
-- ==== Proof.KerPlaces.lean ====
/-
  Where the blocks of a grid point sit in their arrays, and the words read there.
-/
module

public import proofs.«01_k».proof.Proof.PhaseIdeal
public import Idealize.ShloMosaic.Lib.Pipeline.ValueKit
public import Idealize.ShloMosaic.Lib.Pipeline.Covers

@[expose] public section

set_option maxRecDepth 16384

noncomputable section

namespace Cert.KernelIdeal.Blur

open Idealize.ShloMosaic Idealize.ShloMosaic.TcCoe Cert.KernelIdeal Cert.KernelIdeal.Gen

/-- A small number as a word and back. -/
theorem small_word (n : Nat) (h : n < 16) : (BitVec.ofNat 32 n).toNat = n := by
  rw [BitVec.toNat_ofNat]; omega

/-- The output window's block index: the grid's coordinates. -/
theorem transform_2_eq (i : grid0.Coords) : cc0_transform_2 i = ![(i 0).val, (i 1).val, 0, 0] := by
  have h0 : (i 0).val < 8 := (i 0).isLt
  have h1 : (i 1).val < 2 := (i 1).isLt
  rw [← small_word (i 0).val (by omega), ← small_word (i 1).val (by omega)]
  rfl
/-- The input window's block index: the grid's coordinates. -/
theorem transform_0_eq (i : grid0.Coords) : cc0_transform_0 i = ![(i 0).val, (i 1).val, 0, 0] := by
  have h0 : (i 0).val < 8 := (i 0).isLt
  have h1 : (i 1).val < 2 := (i 1).isLt
  rw [← small_word (i 0).val (by omega), ← small_word (i 1).val (by omega)]
  rfl
/-- The table's place read at a grid point: the batch's. -/
theorem off1_eq (i : grid0.Coords) : k0_off1 i = ![(i 0).val] := by
  have h0 : (i 0).val < 8 := (i 0).isLt
  rw [← small_word (i 0).val (by omega)]
  rfl
variable (m : (ℓ : Loc nD τ sig) → Buf (Elt Ideal) ℓ)
/-- Every block of the output array is some grid point's. -/
theorem covers2 (hO : Ok m) : ((cfgM m hO).win 2).Covers := by
  refine ((cfgM m hO).win 2).covers_of_indexMap_surj rfl ?_ fun β => ?_
  · exact (by decide : ∀ a : Fin 4, 0 < S1x48x112x448.size a)
  · let a0 : Fin ((cfgM m hO).win 2).shape.rank := (0 : Fin 4)
    let a1 : Fin ((cfgM m hO).win 2).shape.rank := (1 : Fin 4)
    let a2 : Fin ((cfgM m hO).win 2).shape.rank := (2 : Fin 4)
    let a3 : Fin ((cfgM m hO).win 2).shape.rank := (3 : Fin 4)
    have h0 : (β a0).val < 8 := lt_of_lt_of_eq (β a0).isLt (show (8 + 1 - 1) / 1 = 8 by decide)
    have h1 : (β a1).val < 2 := lt_of_lt_of_eq (β a1).isLt (show (96 + 48 - 1) / 48 = 2 by decide)
    have h2 : (β a2).val < 1 := lt_of_lt_of_eq (β a2).isLt (show (112 + 112 - 1) / 112 = 1 by decide)
    have h3 : (β a3).val < 1 := lt_of_lt_of_eq (β a3).isLt (show (448 + 448 - 1) / 448 = 1 by decide)
    let i : grid0.Coords := fun a => match a with
      | ⟨0, _⟩ => ⟨(β a0).val, h0⟩
      | ⟨1, _⟩ => ⟨(β a1).val, h1⟩
    refine ⟨i, fun a => ?_⟩
    have e := transform_2_eq i
    fin_cases a
    · exact congrFun e 0
    · exact congrFun e 1
    · exact (congrFun e 2).trans (show 0 = (β a2).val by omega)
    · exact (congrFun e 3).trans (show 0 = (β a3).val by omega)

/-- The batch of a grid point. -/
def batch (t : Fin grid0.N) : Fin 8 := ⟨(grid0.coords t 0).val, (grid0.coords t 0).isLt⟩
/-- The half of the channels of a grid point. -/
def part (t : Fin grid0.N) : Fin 2 := ⟨(grid0.coords t 1).val, (grid0.coords t 1).isLt⟩

/-- The place in the output array of an element of a grid point's block. -/
theorem place2 (hO : Ok m) (t : Fin (cfgM m hO).N) (y : S1x48x112x448.Idx) :
    ((((cfgM m hO).win 2).blk t).view.emb y) =
      ix4 (batch t) (⟨(part t).val * 48 + (y 1).val, by have := (part t).isLt; have : (y 1).val < 48 := (y 1).isLt; omega⟩ : Fin 96)
        (⟨(y 2).val, (y 2).isLt⟩ : Fin 112) (⟨(y 3).val, (y 3).isLt⟩ : Fin 448) := by
  have h0 : (y 0).val < 1 := (y 0).isLt
  have key : ∀ a, (((((cfgM m hO).win 2).blk t).view.emb y) a).val = cc0_transform_2 (grid0.coords t) a * S1x48x112x448.size a + (y a).val := fun a => by
    blk_simp
    rfl
  rw [transform_2_eq] at key
  funext a
  apply Fin.ext
  rw [key]
  fin_cases a
  · show (batch t).val * 1 + (y 0).val = (batch t).val; omega
  · rfl
  · show 0 * 112 + (y 2).val = (y 2).val; omega
  · show 0 * 448 + (y 3).val = (y 3).val; omega

/-- An element of the block of the input that a grid point reads. -/
theorem block0_at (hO : Ok m) (c : Dev nD) (t : Fin (cfgM m hO).N) (z : Fin 1) (d : Fin 48) (i j : Fin 112) :
    iblk m hO c 0 t (ix4 z d i j) = m ((c : Thread nD τ).loc main_arg0)
      (ix4 (batch t) (⟨(part t).val * 48 + d.val, by have := (part t).isLt; have := d.isLt; omega⟩ : Fin 96) i j) := by
  have hz := z.isLt
  have key : ∀ a, (((((cfgM m hO).win 0).blk t).view.emb (ix4 z d i j)) a).val = cc0_transform_0 (grid0.coords t) a * S1x48x112x112.size a + ((ix4 z d i j : S1x48x112x112.Idx) a).val := fun a => by
    blk_simp
    rfl
  rw [transform_0_eq] at key
  blk_simp [iblk]
  refine (congrFun (V_main_arg0 m c) _).trans (congrArg (m ((c : Thread nD τ).loc main_arg0)) ?_)
  funext a
  apply Fin.ext
  refine (key a).trans ?_
  fin_cases a
  · show (batch t).val * 1 + z.val = (batch t).val; omega
  · rfl
  · show 0 * 112 + i.val = i.val; omega
  · show 0 * 112 + j.val = j.val; omega

/-- The phase word of a grid point: the argument's at its batch. -/
theorem phase_at (t : Fin grid0.N) : phaseAt (tbl m) (grid0.coords t) = m ((0 : Dev nD).tc.loc main_arg1) (ix1 (batch t)) := by
  have : (tbl m) 0 = m ((0 : Dev nD).tc.loc main_arg1) := V_main_arg1 m 0
  unfold phaseAt Pipeline.Prefetch.Contents.at
  rw [this]
  refine congrArg (m ((0 : Dev nD).tc.loc main_arg1)) ?_
  funext a
  apply Fin.ext
  have e := congrFun (off1_eq (grid0.coords t)) 0
  fin_cases a
  show k0_off1 (grid0.coords t) 0 + 1 * 0 = (batch t).val
  rw [e]
  rfl

/-- A word of the printed literal, by its number. -/
theorem lit0_eq (i : Fin 50176) : lit0 i = lit0t i.val := by
  cases i
  rfl

/-- The table in memory when the grid starts: the printed literal. -/
theorem V_table (c : Dev nD) : V m c main_cst = fun i => Ideal.ofBits .f32 (lit0 (S2x112x224.rowMajor i)) := by
  show StableHlo.after (hostOps0 ++ []) (fun b => m (c, b)) (Proc.devRef .tc main_cst) = _
  unfold hostOps0
  simp only [List.cons_append, List.nil_append, StableHlo.after_cons, StableHlo.after_nil]
  exact StableHlo.nullary_result ..

/-- The place in the table of an element of a grid point's block. -/
theorem place1 (hO : Ok m) (t : Fin (cfgM m hO).N) (h : (phaseAt (tbl m) (grid0.coords t)).toNat < 4)
    (z : Fin 1) (k : Fin 112) (s : Fin 224) :
    (((((cfgM m hO).win 1).blk t).view.emb (ix3 z k s)) : S2x112x224.Idx) =
      ix3 (⟨(phaseAt (tbl m) (grid0.coords t)).toNat / 2, by omega⟩ : Fin 2) k s := by
  have hz := z.isLt
  have key : ∀ a, (((((cfgM m hO).win 1).blk t).view.emb (ix3 z k s)) a).val = cc0_transform_1 Facts₀.k0_off1_inb Facts₀.numel1_S1 (tbl m) (grid0.coords t) a * S1x112x224.size a + ((ix3 z k s : S1x112x224.Idx) a).val := fun a => by
    blk_simp
    rfl
  rw [transform_1_eq _ _ h] at key
  funext a
  apply Fin.ext
  refine (key a).trans ?_
  fin_cases a
  · show (phaseAt (tbl m) (grid0.coords t)).toNat / 2 * 1 + z.val = (phaseAt (tbl m) (grid0.coords t)).toNat / 2; omega
  · show 0 * 112 + k.val = k.val; omega
  · show 0 * 224 + s.val = s.val; omega

/-- An element of the block of the table that a grid point reads. -/
theorem block1_at (hO : Ok m) (c : Dev nD) (t : Fin (cfgM m hO).N) (h : (phaseAt (tbl m) (grid0.coords t)).toNat < 4)
    (z : Fin 1) (k : Fin 112) (s : Fin 224) :
    iblk m hO c 1 t (ix3 z k s) = Ideal.ofBits .f32 (lit0t ((phaseAt (tbl m) (grid0.coords t)).toNat / 2 * 25088 + k.val * 224 + s.val)) := by
  have T : V m c main_cst = fun i => Ideal.ofBits .f32 (lit0t (S2x112x224.rowMajor i).val) :=
    (V_table m c).trans (funext fun i => congrArg (Ideal.ofBits .f32) (lit0_eq _))
  have e := place1 m hO t h z k s
  revert T
  generalize lit0t = f
  intro T
  blk_simp [iblk]
  refine (congrFun T _).trans ?_
  have n : (S2x112x224.rowMajor (((((cfgM m hO).win 1).blk t).view.emb (ix3 z k s)) : S2x112x224.Idx)).val =
      (phaseAt (tbl m) (grid0.coords t)).toNat / 2 * 25088 + k.val * 224 + s.val := by
    refine (congrArg (fun j : S2x112x224.Idx => (S2x112x224.rowMajor j).val) e).trans ((Shape.rowMajor_val_three _).trans ?_)
    show ((phaseAt (tbl m) (grid0.coords t)).toNat / 2 * 112 + k.val) * 224 + s.val = _
    omega
  exact congrArg (fun n => Ideal.ofBits .f32 (f n)) n

end Cert.KernelIdeal.Blur
-- ==== Proof.RefWords.lean ====
/-
  The index words the reference builds: where each update of its two scatters goes.
-/
module

public import proofs.«01_k».proof.Proof.Gen.ReferenceIdeal.Read
public import Idealize.ShloMosaic.Lib.Pointwise

@[expose] public section

set_option maxRecDepth 16384

noncomputable section

namespace Cert.Blur

open Idealize.ShloMosaic Cert.ReferenceIdeal Cert.ReferenceIdeal.Read

/-- Group 0 of the destinations: row `2i`, column `2j` of the upsampled image, flattened. -/
theorem piece_0 (l : Fin 12544) :
    val_main_v42 (F := Ideal) (ix1 l) = BitVec.ofNat 32 ((2 * (l.val / 112) + 0) * 224 + (2 * (l.val % 112) + 0)) := by
  have hl := l.isLt
  have e0 : ((ix1 l : S12544.Idx) 0).val = l.val := rfl
  simp only [val_main_v42_apply, val_main_v41_apply, val_main_v45_apply, val_main_v49_apply, val_main_v53_apply, val_main_v39_apply, val_main_v43_apply, val_main_v47_apply, val_main_v51_apply, val_main_v40_apply, val_main_v44_apply, val_main_v48_apply, val_main_v52_apply, val_main_v38_apply, val_main_v28_apply, val_main_v29_apply, val_main_v33_apply, val_main_v34_apply, val_main_v32_apply, val_main_v31_apply, val_main_v30_apply, val_main_v19_apply, val_main_v20_apply, val_main_v21_apply, val_main_v22_apply, val_main_v23_apply, val_main_v24_apply, val_main_c_3_apply, val_main_c_6_apply, val_main_c_4_apply, val_main_c_5_apply, val_main_c_7_apply, val_main_c_8_apply, val_main_v35_apply, val_main_v36_apply, val_main_v37_apply, val_main_v25_apply, val_main_v26_apply, val_main_v27_apply, e0]
  apply BitVec.eq_of_toNat_eq
  simp only [IntOp.addi, IntOp.muli, BitVec.toNat_add, BitVec.toNat_mul, BitVec.toNat_ofNat]
  omega

/-- Group 1 of the destinations: row `2i + 1`, column `2j` of the upsampled image, flattened. -/
theorem piece_1 (l : Fin 12544) :
    val_main_v46 (F := Ideal) (ix1 l) = BitVec.ofNat 32 ((2 * (l.val / 112) + 1) * 224 + (2 * (l.val % 112) + 0)) := by
  have hl := l.isLt
  have e0 : ((ix1 l : S12544.Idx) 0).val = l.val := rfl
  simp only [val_main_v46_apply, val_main_v41_apply, val_main_v45_apply, val_main_v49_apply, val_main_v53_apply, val_main_v39_apply, val_main_v43_apply, val_main_v47_apply, val_main_v51_apply, val_main_v40_apply, val_main_v44_apply, val_main_v48_apply, val_main_v52_apply, val_main_v38_apply, val_main_v28_apply, val_main_v29_apply, val_main_v33_apply, val_main_v34_apply, val_main_v32_apply, val_main_v31_apply, val_main_v30_apply, val_main_v19_apply, val_main_v20_apply, val_main_v21_apply, val_main_v22_apply, val_main_v23_apply, val_main_v24_apply, val_main_c_3_apply, val_main_c_6_apply, val_main_c_4_apply, val_main_c_5_apply, val_main_c_7_apply, val_main_c_8_apply, val_main_v35_apply, val_main_v36_apply, val_main_v37_apply, val_main_v25_apply, val_main_v26_apply, val_main_v27_apply, e0]
  apply BitVec.eq_of_toNat_eq
  simp only [IntOp.addi, IntOp.muli, BitVec.toNat_add, BitVec.toNat_mul, BitVec.toNat_ofNat]
  omega

/-- Group 2 of the destinations: row `2i`, column `2j + 1` of the upsampled image, flattened. -/
theorem piece_2 (l : Fin 12544) :
    val_main_v50 (F := Ideal) (ix1 l) = BitVec.ofNat 32 ((2 * (l.val / 112) + 0) * 224 + (2 * (l.val % 112) + 1)) := by
  have hl := l.isLt
  have e0 : ((ix1 l : S12544.Idx) 0).val = l.val := rfl
  simp only [val_main_v50_apply, val_main_v41_apply, val_main_v45_apply, val_main_v49_apply, val_main_v53_apply, val_main_v39_apply, val_main_v43_apply, val_main_v47_apply, val_main_v51_apply, val_main_v40_apply, val_main_v44_apply, val_main_v48_apply, val_main_v52_apply, val_main_v38_apply, val_main_v28_apply, val_main_v29_apply, val_main_v33_apply, val_main_v34_apply, val_main_v32_apply, val_main_v31_apply, val_main_v30_apply, val_main_v19_apply, val_main_v20_apply, val_main_v21_apply, val_main_v22_apply, val_main_v23_apply, val_main_v24_apply, val_main_c_3_apply, val_main_c_6_apply, val_main_c_4_apply, val_main_c_5_apply, val_main_c_7_apply, val_main_c_8_apply, val_main_v35_apply, val_main_v36_apply, val_main_v37_apply, val_main_v25_apply, val_main_v26_apply, val_main_v27_apply, e0]
  apply BitVec.eq_of_toNat_eq
  simp only [IntOp.addi, IntOp.muli, BitVec.toNat_add, BitVec.toNat_mul, BitVec.toNat_ofNat]
  omega

/-- Group 3 of the destinations: row `2i + 1`, column `2j + 1` of the upsampled image, flattened. -/
theorem piece_3 (l : Fin 12544) :
    val_main_v54 (F := Ideal) (ix1 l) = BitVec.ofNat 32 ((2 * (l.val / 112) + 1) * 224 + (2 * (l.val % 112) + 1)) := by
  have hl := l.isLt
  have e0 : ((ix1 l : S12544.Idx) 0).val = l.val := rfl
  simp only [val_main_v54_apply, val_main_v41_apply, val_main_v45_apply, val_main_v49_apply, val_main_v53_apply, val_main_v39_apply, val_main_v43_apply, val_main_v47_apply, val_main_v51_apply, val_main_v40_apply, val_main_v44_apply, val_main_v48_apply, val_main_v52_apply, val_main_v38_apply, val_main_v28_apply, val_main_v29_apply, val_main_v33_apply, val_main_v34_apply, val_main_v32_apply, val_main_v31_apply, val_main_v30_apply, val_main_v19_apply, val_main_v20_apply, val_main_v21_apply, val_main_v22_apply, val_main_v23_apply, val_main_v24_apply, val_main_c_3_apply, val_main_c_6_apply, val_main_c_4_apply, val_main_c_5_apply, val_main_c_7_apply, val_main_c_8_apply, val_main_v35_apply, val_main_v36_apply, val_main_v37_apply, val_main_v25_apply, val_main_v26_apply, val_main_v27_apply, e0]
  apply BitVec.eq_of_toNat_eq
  simp only [IntOp.addi, IntOp.muli, BitVec.toNat_add, BitVec.toNat_mul, BitVec.toNat_ofNat]
  omega

/-- Where update `l` of the second scatter goes. -/
def dest (l : Nat) : Nat :=
  (2 * (l % 12544 / 112) + l / 12544 % 2) * 224 + (2 * (l % 112) + l / 12544 / 2)

/-- A destination is a place of the image. -/
theorem dest_lt (l : Nat) (h : l < 50176) : dest l < 50176 := by
  unfold dest; omega

/-- The row of a destination. -/
theorem dest_row (l : Nat) (h : l < 50176) : dest l / 224 = 2 * (l % 12544 / 112) + l / 12544 % 2 := by
  have : 2 * (l % 112) + l / 12544 / 2 < 224 := by omega
  unfold dest
  rw [Nat.add_comm, Nat.add_mul_div_right _ _ (by decide), Nat.div_eq_of_lt this, Nat.zero_add]

/-- The column of a destination. -/
theorem dest_col (l : Nat) (h : l < 50176) : dest l % 224 = 2 * (l % 112) + l / 12544 / 2 := by
  have : 2 * (l % 112) + l / 12544 / 2 < 224 := by omega
  unfold dest
  rw [Nat.add_comm, Nat.add_mul_mod_self_right, Nat.mod_eq_of_lt this]

/-- Two updates of the second scatter never meet. -/
theorem dest_inj (l l' : Nat) (h : l < 50176) (h' : l' < 50176) (e : dest l = dest l') : l = l' := by
  have hr := congrArg (· / 224) e
  have hs := congrArg (· % 224) e
  simp only [dest_row l h, dest_row l' h', dest_col l h, dest_col l' h'] at hr hs
  clear e
  rw [← Nat.mod_mod_of_dvd l (by decide : 112 ∣ 12544), ← Nat.mod_mod_of_dvd l' (by decide : 112 ∣ 12544)] at hs
  have d1 := Nat.div_add_mod l 12544
  have d2 := Nat.div_add_mod l' 12544
  have b1 : l / 12544 < 4 := by omega
  have b2 : l' / 12544 < 4 := by omega
  generalize l / 12544 = q at *
  generalize l' / 12544 = q' at *
  generalize l % 12544 = p at *
  generalize l' % 12544 = p' at *
  have c1 := Nat.div_add_mod p 112
  have c2 := Nat.div_add_mod p' 112
  generalize p / 112 = i at *
  generalize p' / 112 = i' at *
  generalize p % 112 = j at *
  generalize p' % 112 = j' at *
  omega

/-- The destination of group `q`'s element in row `i` and column `j`. -/
theorem dest_mk (q i j : Nat) (hi : i < 112) (hj : j < 112) :
    dest (q * 12544 + (i * 112 + j)) = (2 * i + q % 2) * 224 + (2 * j + q / 2) := by
  have a : (q * 12544 + (i * 112 + j)) / 12544 = q := by omega
  have b : (q * 12544 + (i * 112 + j)) % 12544 = i * 112 + j := by omega
  have c : (i * 112 + j) / 112 = i := by omega
  have d : (q * 12544 + (i * 112 + j)) % 112 = j := by omega
  unfold dest
  rw [a, b, c, d]

/-- The destinations before the wrap of negative ones. -/
theorem perm_word (l : Fin 50176) : val_main_v55 (F := Ideal) (ix1 l) = BitVec.ofNat 32 (dest l.val) := by
  have hl := l.isLt
  have h0 := piece_0
  have h1 := piece_1
  have h2 := piece_2
  have h3 := piece_3
  unfold val_main_v55
  generalize val_main_v42 (F := Ideal) = y0, val_main_v46 (F := Ideal) = y1, val_main_v50 (F := Ideal) = y2, val_main_v54 (F := Ideal) = y3 at *
  pointwise
  unfold dest
  by_cases c0 : l.val < 12544
  · rw [dif_pos c0]; refine (h0 _).trans ?_; refine congrArg (BitVec.ofNat 32) ?_; dsimp only; omega
  rw [dif_neg c0]
  by_cases c1 : l.val - 12544 < 12544
  · rw [dif_pos c1]; refine (h1 _).trans ?_; refine congrArg (BitVec.ofNat 32) ?_; dsimp only; omega
  rw [dif_neg c1]
  by_cases c2 : l.val - 12544 - 12544 < 12544
  · rw [dif_pos c2]; refine (h2 _).trans ?_; refine congrArg (BitVec.ofNat 32) ?_; dsimp only; omega
  rw [dif_neg c2]
  refine (h3 _).trans ?_; refine congrArg (BitVec.ofNat 32) ?_; dsimp only; omega

/-- A word below 2³¹ is not negative. -/
theorem cmpi_slt_zero (w : BitVec 32) (h : w.toNat < 2147483648) : IntOp.cmpi .slt w 0#32 = 0#1 := by
  simp only [IntOp.cmpi, BitVec.slt]
  have : w.toInt = (w.toNat : Int) := by rw [BitVec.toInt_eq_toNat_cond]; omega
  rw [this, show decide ((w.toNat : Int) < (0#32).toInt) = false from decide_eq_false (by simp)]
  rfl

/-- The destinations the second scatter reads. -/
theorem dest_word (l : Fin 50176) (e : Fin 1) :
    val_main_v62 (F := Ideal) (ix2 l e) = BitVec.ofNat 32 (dest l.val) := by
  have hd := dest_lt l.val l.isLt
  have hi : idx_main_v62 (ix2 l e) = ix1 l := by funext a; fin_cases a; rfl
  rw [val_main_v62_apply, hi, val_main_v61_apply, val_main_v58_apply, val_main_v57_apply, val_main_c_10_apply, perm_word,
    cmpi_slt_zero]
  · rfl
  · rw [BitVec.toNat_ofNat]; omega

/-- The two index words of each update of the first scatter: the batch, and its phase. -/
theorem pair_word (x1 : (⟨S8, .i32⟩ : BufTy).Contents (Elt Ideal)) (h : ∀ y, (x1 y).toNat < 4) (b : Fin 8) (e : Fin 2) :
    val_main_v15 x1 (ix2 b e) = if e.val = 0 then BitVec.ofNat 32 b.val else x1 (ix1 b) := by
  have hb := b.isLt
  have hx := h (ix1 b)
  pointwise [val_main_v15, val_main_v14, val_main_v13, val_main_v12, val_main_v11, val_main_v10, val_main_v9, val_main_v8, val_main_v7, val_main_v6, val_main_v5, val_main_v4, val_main_v3, val_main_v2, val_main_c, val_main_c_0, val_main_c_1, val_main_c_2]
  rw [cmpi_slt_zero (BitVec.ofNat 32 b.val) (by rw [BitVec.toNat_ofNat]; omega), cmpi_slt_zero (x1 (ix1 b)) (by omega)]
  by_cases he : e.val = 0
  · rw [if_pos he, dif_pos (by omega)]; rfl
  · rw [if_neg he, dif_neg (by omega)]; rfl

end Cert.Blur
-- ==== Proof.Scatter.lean ====
/-
  A scatter whose body keeps the update, read at one element.
-/
module

public import Idealize.ShloMosaic.Lib.Routing.OpsOrder

@[expose] public section

namespace Cert.Blur

open Idealize.ShloMosaic

/-- A left fold that overwrites its state at exactly one member of a list ends at the value written there. -/
theorem foldl_write_once {α ι : Type} (L : List ι) (hit : ι → Prop) [DecidablePred hit] (v : ι → α) (k : ι)
    (hk : k ∈ L) (hhit : hit k) (huniq : ∀ j ∈ L, hit j → j = k) (a : α) :
    L.foldl (fun r j => if hit j then v j else r) a = v k := by
  induction L using List.reverseRecOn with
  | nil => simp at hk
  | append_singleton L j ih =>
    rw [List.foldl_append, List.foldl_cons, List.foldl_nil]
    by_cases hj : hit j
    · rw [if_pos hj, huniq j (by simp) hj]
    · rw [if_neg hj]
      refine ih ?_ fun i hi => huniq i (by simp [hi])
      rcases List.mem_append.1 hk with h | h
      · exact h
      · rw [List.mem_singleton] at h; subst h; exact absurd hhit hj

/-- A left fold that never overwrites its state ends where it began. -/
theorem foldl_write_never {α ι : Type} (L : List ι) (hit : ι → Prop) [DecidablePred hit] (v : ι → α)
    (hno : ∀ j ∈ L, ¬ hit j) (a : α) : L.foldl (fun r j => if hit j then v j else r) a = a := by
  induction L generalizing a with
  | nil => rfl
  | cons j L ih => rw [List.foldl_cons, if_neg (hno j (by simp))]; exact ih (fun i hi => hno i (by simp [hi])) a

variable {α : Type} {s si u : Shape} {w : Nat}

/-- An element at which exactly one update lands holds that update. -/
theorem scatter_hit (d : ScatterDims s si u) (x : s.Idx → α) (idx : IVec si w) (upd : u.Idx → α) (ι : s.Idx) (j : u.Idx)
    (hj : d.resultIdx? j idx = some ι) (huniq : ∀ j', d.resultIdx? j' idx = some ι → j' = j) :
    Host.scatter d (fun _ b => b) x idx upd ι = upd j := by
  rw [← Routing.scatterIn_finRange, Routing.scatterIn_at]
  have := foldl_write_once (List.finRange u.numel) (fun n => d.resultIdx? (u.rowMajor.symm n) idx = some ι)
    (fun n => upd (u.rowMajor.symm n)) (u.rowMajor j) (List.mem_finRange _) (by simpa using hj)
    (fun n _ hn => by rw [← huniq _ hn]; simp) (x ι)
  simpa using this

/-- An element at which no update lands keeps the operand's value. -/
theorem scatter_miss (d : ScatterDims s si u) (x : s.Idx → α) (idx : IVec si w) (upd : u.Idx → α) (ι : s.Idx)
    (hno : ∀ j, d.resultIdx? j idx ≠ some ι) :
    Host.scatter d (fun _ b => b) x idx upd ι = x ι := by
  rw [← Routing.scatterIn_finRange, Routing.scatterIn_at]
  exact foldl_write_never (List.finRange u.numel) (fun n => d.resultIdx? (u.rowMajor.symm n) idx = some ι)
    (fun n => upd (u.rowMajor.symm n)) (fun n _ => hno _) (x ι)

/-- Where an update lands: at `ι` exactly when start plus window coordinate is `ι`'s coordinate on every axis. -/
theorem resultIdx?_eq_some (d : ScatterDims s si u) (j : u.Idx) (idx : IVec si w) (ι : s.Idx) :
    d.resultIdx? j idx = some ι ↔ ∀ a, d.start j idx a + d.window j a = ((ι a).val : Int) := by
  unfold ScatterDims.resultIdx?
  constructor
  · intro h a
    split at h
    · rename_i hb
      have := congrFun (Option.some.inj h) a
      rw [← this]; have := hb a; simp only; omega
    · cases h
  · intro h
    rw [dif_pos (fun a => by rw [h a]; have := (ι a).isLt; omega)]
    congr 1; funext a; apply Fin.ext; simp only [h a]; omega

end Cert.Blur
-- ==== Proof.RefScatter.lean ====
/-
  The reference's two scatters: the image placed in the group its phase names, then the groups interleaved.
-/
module

public import proofs.«01_k».proof.Proof.RefWords
public import proofs.«01_k».proof.Proof.Scatter

@[expose] public section

noncomputable section

namespace Cert.Blur

open Idealize.ShloMosaic Cert.ReferenceIdeal Cert.ReferenceIdeal.Read

/-- The start of an update of the first scatter on the batch and group axes. -/
theorem start1 (idx : IVec S8x2 32) (b : Fin 8) (c : Fin 96) (l : Fin 12544) :
    scatter_S8x4x96x12544_S8x2_S8x96x12544_12_01_01_1.start (ix3 b c l) idx 0 = (idx (ix2 b 0)).toInt
    ∧ scatter_S8x4x96x12544_S8x2_S8x96x12544_12_01_01_1.start (ix3 b c l) idx 1 = (idx (ix2 b 1)).toInt
    ∧ scatter_S8x4x96x12544_S8x2_S8x96x12544_12_01_01_1.start (ix3 b c l) idx 2 = 0
    ∧ scatter_S8x4x96x12544_S8x2_S8x96x12544_12_01_01_1.start (ix3 b c l) idx 3 = 0 := by
  have e0 : scatter_S8x4x96x12544_S8x2_S8x96x12544_12_01_01_1.siIdx (ix3 b c l) ⟨0, by decide⟩ = ix2 b 0 := by
    funext a; fin_cases a <;> rfl
  have e1 : scatter_S8x4x96x12544_S8x2_S8x96x12544_12_01_01_1.siIdx (ix3 b c l) ⟨1, by decide⟩ = ix2 b 1 := by
    funext a; fin_cases a <;> rfl
  rw [← e0, ← e1]
  exact ⟨rfl, rfl, rfl, rfl⟩

/-- The window coordinates of an update of the first scatter. -/
theorem window1 (b : Fin 8) (c : Fin 96) (l : Fin 12544) :
    scatter_S8x4x96x12544_S8x2_S8x96x12544_12_01_01_1.window (ix3 b c l) 0 = 0
    ∧ scatter_S8x4x96x12544_S8x2_S8x96x12544_12_01_01_1.window (ix3 b c l) 1 = 0
    ∧ scatter_S8x4x96x12544_S8x2_S8x96x12544_12_01_01_1.window (ix3 b c l) 2 = c.val
    ∧ scatter_S8x4x96x12544_S8x2_S8x96x12544_12_01_01_1.window (ix3 b c l) 3 = l.val := ⟨rfl, rfl, rfl, rfl⟩

/-- The start of an update of the second scatter. -/
theorem start2 (idx : IVec S50176x1 32) (b : Fin 8) (c : Fin 96) (l : Fin 50176) :
    scatter_S8x96x50176_S50176x1_S8x96x50176_01_2_2_1.start (ix3 b c l) idx 0 = 0
    ∧ scatter_S8x96x50176_S50176x1_S8x96x50176_01_2_2_1.start (ix3 b c l) idx 1 = 0
    ∧ scatter_S8x96x50176_S50176x1_S8x96x50176_01_2_2_1.start (ix3 b c l) idx 2 = (idx (ix2 l 0)).toInt := by
  have e0 : scatter_S8x96x50176_S50176x1_S8x96x50176_01_2_2_1.siIdx (ix3 b c l) ⟨0, by decide⟩ = ix2 l 0 := by
    funext a; fin_cases a <;> rfl
  rw [← e0]
  exact ⟨rfl, rfl, rfl⟩

/-- The window coordinates of an update of the second scatter. -/
theorem window2 (b : Fin 8) (c : Fin 96) (l : Fin 50176) :
    scatter_S8x96x50176_S50176x1_S8x96x50176_01_2_2_1.window (ix3 b c l) 0 = b.val
    ∧ scatter_S8x96x50176_S50176x1_S8x96x50176_01_2_2_1.window (ix3 b c l) 1 = c.val
    ∧ scatter_S8x96x50176_S50176x1_S8x96x50176_01_2_2_1.window (ix3 b c l) 2 = 0 := ⟨rfl, rfl, rfl⟩

/-- A small word read signed is the number it was built from. -/
theorem toInt_of_lt (w : BitVec 32) (h : w.toNat < 2147483648) : w.toInt = (w.toNat : Int) := by
  rw [BitVec.toInt_eq_toNat_cond]; omega

/-- The first scatter: batch `b`'s image sits in group `q` when `q` is the batch's phase, and the other groups are zero. -/
theorem v16_at (x0 : (⟨S8x96x112x112, .f32⟩ : BufTy).Contents (Elt Ideal)) (x1 : (⟨S8, .i32⟩ : BufTy).Contents (Elt Ideal))
    (h : ∀ y, (x1 y).toNat < 4) (b : Fin 8) (q : Fin 4) (c : Fin 96) (l : Fin 12544) :
    val_main_v16 x0 x1 (ix4 b q c l) = if q.val = (x1 (ix1 b)).toNat then val_main_v0 x0 (ix3 b c l) else val_main_v1 (ix4 b q c l) := by
  have hp := pair_word x1 h
  unfold val_main_v16
  have key : ∀ (b' : Fin 8) (c' : Fin 96) (l' : Fin 12544),
      scatter_S8x4x96x12544_S8x2_S8x96x12544_12_01_01_1.resultIdx? (ix3 b' c' l') (val_main_v15 x1) = some (ix4 b q c l)
        ↔ b' = b ∧ (x1 (ix1 b')).toNat = q.val ∧ c' = c ∧ l' = l := by
    intro b' c' l'
    have hx := h (ix1 b')
    have hb' := b'.isLt
    obtain ⟨s0, s1, s2, s3⟩ := start1 (val_main_v15 x1) b' c' l'
    obtain ⟨w0, w1, w2, w3⟩ := window1 b' c' l'
    have p0 : (val_main_v15 x1 (ix2 b' 0)).toInt = (b'.val : Int) := by
      rw [hp, if_pos (show ((0 : Fin 2)).val = 0 from rfl), toInt_of_lt _ (by rw [BitVec.toNat_ofNat]; omega), BitVec.toNat_ofNat]; omega
    have p1 : (val_main_v15 x1 (ix2 b' 1)).toInt = ((x1 (ix1 b')).toNat : Int) := by
      rw [hp, if_neg (show ¬ ((1 : Fin 2)).val = 0 from by decide), toInt_of_lt _ (by omega)]
    rw [resultIdx?_eq_some]
    constructor
    · intro hh
      have h0 := hh 0; have h1 := hh 1; have h2 := hh 2; have h3 := hh 3
      rw [s0, w0, p0] at h0; rw [s1, w1, p1] at h1; rw [s2, w2] at h2; rw [s3, w3] at h3
      have h0' : (b'.val : Int) + ((0 : Nat) : Int) = (b.val : Int) := h0
      have h1' : ((x1 (ix1 b')).toNat : Int) + ((0 : Nat) : Int) = (q.val : Int) := h1
      have h2' : (0 : Int) + (c'.val : Int) = (c.val : Int) := h2
      have h3' : (0 : Int) + (l'.val : Int) = (l.val : Int) := h3
      exact ⟨Fin.ext (by omega), by omega, Fin.ext (by omega), Fin.ext (by omega)⟩
    · rintro ⟨rfl, hq, rfl, rfl⟩ a
      have hq' : ((x1 (ix1 b')).toNat : Int) + ((0 : Nat) : Int) = (q.val : Int) := by omega
      fin_cases a
      · exact (congrArg₂ (fun (u : Int) (v : Nat) => u + (v : Int)) (s0.trans p0) w0).trans (by simp)
      · exact (congrArg₂ (fun (u : Int) (v : Nat) => u + (v : Int)) (s1.trans p1) w1).trans hq'
      · exact (congrArg₂ (fun (u : Int) (v : Nat) => u + (v : Int)) s2 w2).trans (by simp)
      · exact (congrArg₂ (fun (u : Int) (v : Nat) => u + (v : Int)) s3 w3).trans (by simp)
  by_cases hq : q.val = (x1 (ix1 b)).toNat
  · rw [if_pos hq]
    refine scatter_hit _ _ _ _ _ (ix3 b c l) ((key b c l).2 ⟨rfl, hq.symm, rfl, rfl⟩) fun j' hj' => ?_
    idx_vars j'
    obtain ⟨rfl, -, rfl, rfl⟩ := (key _ _ _).1 hj'
    rfl
  · rw [if_neg hq]
    refine scatter_miss _ _ _ _ _ fun j' hj' => ?_
    idx_vars j'
    obtain ⟨rfl, h', -, -⟩ := (key _ _ _).1 hj'
    exact hq h'.symm

/-- The second scatter moves flat position `l` to `dest l`. -/
theorem v63_at (x0 : (⟨S8x96x112x112, .f32⟩ : BufTy).Contents (Elt Ideal)) (x1 : (⟨S8, .i32⟩ : BufTy).Contents (Elt Ideal))
    (b : Fin 8) (c : Fin 96) (l k : Fin 50176) (hk : k.val = dest l.val) :
    val_main_v63 x0 x1 (ix3 b c k) = val_main_v18 x0 x1 (ix3 b c l) := by
  unfold val_main_v63
  have key : ∀ (b' : Fin 8) (c' : Fin 96) (l' : Fin 50176),
      scatter_S8x96x50176_S50176x1_S8x96x50176_01_2_2_1.resultIdx? (ix3 b' c' l') (val_main_v62 (F := Ideal)) = some (ix3 b c k)
        ↔ b' = b ∧ c' = c ∧ dest l'.val = k.val := by
    intro b' c' l'
    have hd := dest_lt l'.val l'.isLt
    obtain ⟨s0, s1, s2⟩ := start2 (val_main_v62 (F := Ideal)) b' c' l'
    obtain ⟨w0, w1, w2⟩ := window2 b' c' l'
    have p0 : (val_main_v62 (F := Ideal) (ix2 l' 0)).toInt = (dest l'.val : Int) := by
      rw [dest_word, toInt_of_lt _ (by rw [BitVec.toNat_ofNat]; omega), BitVec.toNat_ofNat, Nat.mod_eq_of_lt (by omega)]
    rw [resultIdx?_eq_some]
    constructor
    · intro hh
      have h0 := hh 0; have h1 := hh 1; have h2 := hh 2
      rw [s0, w0] at h0; rw [s1, w1] at h1; rw [s2, w2, p0] at h2
      have h0' : (0 : Int) + (b'.val : Int) = (b.val : Int) := h0
      have h1' : (0 : Int) + (c'.val : Int) = (c.val : Int) := h1
      have h2' : (dest l'.val : Int) + ((0 : Nat) : Int) = (k.val : Int) := h2
      exact ⟨Fin.ext (by omega), Fin.ext (by omega), by omega⟩
    · rintro ⟨rfl, rfl, hq⟩ a
      have hq' : (dest l'.val : Int) + ((0 : Nat) : Int) = (k.val : Int) := by omega
      fin_cases a
      · exact (congrArg₂ (fun (u : Int) (v : Nat) => u + (v : Int)) s0 w0).trans (by simp)
      · exact (congrArg₂ (fun (u : Int) (v : Nat) => u + (v : Int)) s1 w1).trans (by simp)
      · exact (congrArg₂ (fun (u : Int) (v : Nat) => u + (v : Int)) (s2.trans p0) w2).trans hq'
  refine scatter_hit _ _ _ _ _ (ix3 b c l) ((key b c l).2 ⟨rfl, rfl, hk.symm⟩) fun j' hj' => ?_
  idx_vars j'
  obtain ⟨rfl, rfl, h'⟩ := (key _ _ _).1 hj'
  congr 1
  apply Fin.ext
  rw [hk] at h'
  exact dest_inj _ _ (Fin.isLt _) (Fin.isLt _) h'

/-- The upsampled image: `x` at the places whose row and column parities are the phase's, zero elsewhere. -/
theorem upsampled (x0 : (⟨S8x96x112x112, .f32⟩ : BufTy).Contents (Elt Ideal)) (x1 : (⟨S8, .i32⟩ : BufTy).Contents (Elt Ideal))
    (h : ∀ y, (x1 y).toNat < 4) (b : Fin 8) (c : Fin 96) (r s : Fin 224) :
    val_main_v64 x0 x1 (ix4 b c r s) =
      if r.val % 2 + 2 * (s.val % 2) = (x1 (ix1 b)).toNat
      then x0 (ix4 b c ⟨r.val / 2, by omega⟩ ⟨s.val / 2, by omega⟩) else 0 := by
  have hr := r.isLt
  have hs := s.isLt
  have hb := b.isLt
  have hc := c.isLt
  let q : Fin 4 := ⟨r.val % 2 + 2 * (s.val % 2), by omega⟩
  let p : Fin 12544 := ⟨r.val / 2 * 112 + s.val / 2, by omega⟩
  let l : Fin 50176 := ⟨q.val * 12544 + p.val, by simp only [q, p]; omega⟩
  let k : Fin 50176 := ⟨r.val * 224 + s.val, by omega⟩
  have e0 : idx_main_v64 (ix4 b c r s) = ix3 b c k := by
    funext a
    apply Fin.ext
    fin_cases a
    · show (((b.val * 96 + c.val) * 224 + r.val) * 224 + s.val) / 4816896 = b.val; omega
    · show (((b.val * 96 + c.val) * 224 + r.val) * 224 + s.val) / 50176 % 96 = c.val; omega
    · show (((b.val * 96 + c.val) * 224 + r.val) * 224 + s.val) % 50176 = r.val * 224 + s.val; omega
  have e1 : val_main_v64 x0 x1 (ix4 b c r s) = val_main_v63 x0 x1 (ix3 b c k) := by
    rw [val_main_v64_apply, e0]
  have e2 : val_main_v18 x0 x1 (ix3 b c l) = val_main_v16 x0 x1 (ix4 b q c p) := by
    have e5 : idx_main_v18 (ix3 b c l) = ix4 b c q p := by
      have hq := q.isLt
      have hp := p.isLt
      funext a
      apply Fin.ext
      fin_cases a
      · show ((b.val * 96 + c.val) * 50176 + (q.val * 12544 + p.val)) / 4816896 = b.val; omega
      · show ((b.val * 96 + c.val) * 50176 + (q.val * 12544 + p.val)) / 50176 % 96 = c.val; omega
      · show ((b.val * 96 + c.val) * 50176 + (q.val * 12544 + p.val)) / 12544 % 4 = q.val; omega
      · show ((b.val * 96 + c.val) * 50176 + (q.val * 12544 + p.val)) % 12544 = p.val; omega
    have e6 : idx_main_v17 (ix4 b c q p) = ix4 b q c p := by
      funext a; fin_cases a <;> rfl
    rw [val_main_v18_apply, e5, val_main_v17_apply, e6]
  have e3 : val_main_v0 x0 (ix3 b c p) = x0 (ix4 b c ⟨r.val / 2, by omega⟩ ⟨s.val / 2, by omega⟩) := by
    have e5 : idx_main_v0 (ix3 b c p) = ix4 b c ⟨r.val / 2, by omega⟩ ⟨s.val / 2, by omega⟩ := by
      funext a
      apply Fin.ext
      fin_cases a
      · show ((b.val * 96 + c.val) * 12544 + (r.val / 2 * 112 + s.val / 2)) / 1204224 = b.val; omega
      · show ((b.val * 96 + c.val) * 12544 + (r.val / 2 * 112 + s.val / 2)) / 12544 % 96 = c.val; omega
      · show ((b.val * 96 + c.val) * 12544 + (r.val / 2 * 112 + s.val / 2)) / 112 % 112 = r.val / 2; omega
      · show ((b.val * 96 + c.val) * 12544 + (r.val / 2 * 112 + s.val / 2)) % 112 = s.val / 2; omega
    rw [val_main_v0_apply, e5]
  have e4 : val_main_v1 (F := Ideal) (ix4 b q c p) = 0 := by
    pointwise [val_main_v1, val_main_cst]
  have e7 : k.val = dest l.val := by
    show r.val * 224 + s.val = dest ((r.val % 2 + 2 * (s.val % 2)) * 12544 + (r.val / 2 * 112 + s.val / 2))
    rw [dest_mk _ _ _ (by omega) (by omega)]; omega
  rw [e1, v63_at x0 x1 b c l k e7, e2, v16_at x0 x1 h, e3, e4]

end Cert.Blur
-- ==== Proof.RefSum.lean ====
/-
  The reference's result: nine shifted copies of the padded image, weighted and added up in order.
-/
module

public import proofs.«01_k».proof.Proof.RefScatter
public import proofs.«01_k».proof.Proof.Blur

@[expose] public section

noncomputable section

namespace Cert.Blur

open Idealize.ShloMosaic Cert.ReferenceIdeal Cert.ReferenceIdeal.Read

/-- Batch `b`, channel `c` of the input as a function of two numbers, zero outside the image. -/
def image (x0 : FVec Ideal ⟨4, ![8, 96, 112, 112]⟩ .f32) (b : Fin 8) (c : Fin 96) (i j : Nat) : EReal :=
  if h : i < 112 ∧ j < 112 then x0 (ix4 b c ⟨i, h.1⟩ ⟨j, h.2⟩) else 0

/-- What both programs compute: the two one-dimensional blurs of the input spread by its batch's phase. -/
def result (x0 : FVec Ideal ⟨4, ![8, 96, 112, 112]⟩ .f32) (x1 : IVec ⟨1, ![8]⟩ 32) (b : Fin 8) (c : Fin 96) (r s : Nat) : EReal :=
  twoTap ((x1 (ix1 b)).toNat % 2) (fun i => twoTap ((x1 (ix1 b)).toNat / 2) (image x0 b c i) s) r

variable (x0 : (⟨S8x96x112x112, .f32⟩ : BufTy).Contents (Elt Ideal)) (x1 : (⟨S8, .i32⟩ : BufTy).Contents (Elt Ideal))
  (x2 : (⟨S96x1x3x3, .f32⟩ : BufTy).Contents (Elt Ideal))

/-- The padded image is the spread input read at the mirrored places. -/
theorem padded_spread (h : ∀ y, (x1 y).toNat < 4) (b : Fin 8) (c : Fin 96) (r s : Fin 226) :
    val_main_v65 x0 x1 (ix4 b c r s) =
      spread2 ((x1 (ix1 b)).toNat % 2) ((x1 (ix1 b)).toNat / 2) (image x0 b c) (mirror r.val) (mirror s.val) := by
  have hp := h (ix1 b)
  have hr := mirror_lt _ r.isLt
  have hs := mirror_lt _ s.isLt
  rw [padded, upsampled x0 x1 h]
  unfold spread2 image
  dsimp only
  by_cases hc : mirror r.val % 2 + 2 * (mirror s.val % 2) = (x1 (ix1 b)).toNat
  · rw [if_pos hc, if_pos (by omega), dif_pos (by omega)]
  · rw [if_neg hc, if_neg (by omega)]

/-- The reference's result at one element. -/
theorem reference_at (h : ∀ y, (x1 y).toNat < 4) (hf : ∀ c i j, x2 (ix4 c 0 i j) = tap i * tap j)
    (b : Fin 8) (c : Fin 96) (r s : Fin 224) :
    val_main_v129 x0 x1 x2 (ix4 b c r s) = result x0 x1 b c r.val s.val := by
  have hb := h (ix1 b)
  have hp := padded_spread x0 x1 h
  unfold result
  rw [← blur9_spread2 _ _ (by omega) (by omega) (image x0 b c) r.val s.val r.isLt s.isLt]
  simp only [val_main_v129_apply, val_main_v122_apply, val_main_v115_apply, val_main_v108_apply, val_main_v101_apply,
    val_main_v94_apply, val_main_v87_apply, val_main_v80_apply, val_main_v73_apply, val_main_v66_apply,
    val_main_v72_apply, val_main_v79_apply, val_main_v86_apply, val_main_v93_apply, val_main_v100_apply,
    val_main_v107_apply, val_main_v114_apply, val_main_v121_apply, val_main_v128_apply, val_main_cst_13_apply]
  pointwise [val_main_v67, val_main_v68, val_main_v69, val_main_v70, val_main_v71]
  pointwise [val_main_v74, val_main_v75, val_main_v76, val_main_v77, val_main_v78]
  pointwise [val_main_v81, val_main_v82, val_main_v83, val_main_v84, val_main_v85]
  pointwise [val_main_v88, val_main_v89, val_main_v90, val_main_v91, val_main_v92]
  pointwise [val_main_v95, val_main_v96, val_main_v97, val_main_v98, val_main_v99]
  pointwise [val_main_v102, val_main_v103, val_main_v104, val_main_v105, val_main_v106]
  pointwise [val_main_v109, val_main_v110, val_main_v111, val_main_v112, val_main_v113]
  pointwise [val_main_v116, val_main_v117, val_main_v118, val_main_v119, val_main_v120]
  pointwise [val_main_v123, val_main_v124, val_main_v125, val_main_v126, val_main_v127]
  have t0 : tap 0 = quarter := rfl
  have t1 : tap 1 = half := rfl
  have t2 : tap 2 = quarter := rfl
  simp only [hf, hp, t0, t1, t2, Nat.add_comm 1, Nat.add_comm 2]
  rfl

end Cert.Blur
-- ==== Proof.Table0.lean ====
/-
  A stretch of the kernel's literal table, checked entry by entry.
-/
module

public import proofs.«01_k».proof.Proof.TableWord

@[expose] public section

namespace Cert.Blur

/-- Entries 0 to 3583 of the printed table are `tableWord`'s. -/
theorem agree_0 : agreeUpTo Cert.KernelIdeal.lit0t 0 3584 = true := by decide +kernel
/-- Entries 3584 to 7167 of the printed table are `tableWord`'s. -/
theorem agree_1 : agreeUpTo Cert.KernelIdeal.lit0t 3584 3584 = true := by decide +kernel
/-- Entries 7168 to 10751 of the printed table are `tableWord`'s. -/
theorem agree_2 : agreeUpTo Cert.KernelIdeal.lit0t 7168 3584 = true := by decide +kernel
/-- Entries 10752 to 14335 of the printed table are `tableWord`'s. -/
theorem agree_3 : agreeUpTo Cert.KernelIdeal.lit0t 10752 3584 = true := by decide +kernel

end Cert.Blur
-- ==== Proof.Table1.lean ====
/-
  A stretch of the kernel's literal table, checked entry by entry.
-/
module

public import proofs.«01_k».proof.Proof.TableWord

@[expose] public section

namespace Cert.Blur

/-- Entries 14336 to 17919 of the printed table are `tableWord`'s. -/
theorem agree_4 : agreeUpTo Cert.KernelIdeal.lit0t 14336 3584 = true := by decide +kernel
/-- Entries 17920 to 21503 of the printed table are `tableWord`'s. -/
theorem agree_5 : agreeUpTo Cert.KernelIdeal.lit0t 17920 3584 = true := by decide +kernel
/-- Entries 21504 to 25087 of the printed table are `tableWord`'s. -/
theorem agree_6 : agreeUpTo Cert.KernelIdeal.lit0t 21504 3584 = true := by decide +kernel
/-- Entries 25088 to 28671 of the printed table are `tableWord`'s. -/
theorem agree_7 : agreeUpTo Cert.KernelIdeal.lit0t 25088 3584 = true := by decide +kernel

end Cert.Blur
-- ==== Proof.Table2.lean ====
/-
  A stretch of the kernel's literal table, checked entry by entry.
-/
module

public import proofs.«01_k».proof.Proof.TableWord

@[expose] public section

namespace Cert.Blur

/-- Entries 28672 to 32255 of the printed table are `tableWord`'s. -/
theorem agree_8 : agreeUpTo Cert.KernelIdeal.lit0t 28672 3584 = true := by decide +kernel
/-- Entries 32256 to 35839 of the printed table are `tableWord`'s. -/
theorem agree_9 : agreeUpTo Cert.KernelIdeal.lit0t 32256 3584 = true := by decide +kernel
/-- Entries 35840 to 39423 of the printed table are `tableWord`'s. -/
theorem agree_10 : agreeUpTo Cert.KernelIdeal.lit0t 35840 3584 = true := by decide +kernel

end Cert.Blur
-- ==== Proof.Table3.lean ====
/-
  A stretch of the kernel's literal table, checked entry by entry.
-/
module

public import proofs.«01_k».proof.Proof.TableWord

@[expose] public section

namespace Cert.Blur

/-- Entries 39424 to 43007 of the printed table are `tableWord`'s. -/
theorem agree_11 : agreeUpTo Cert.KernelIdeal.lit0t 39424 3584 = true := by decide +kernel
/-- Entries 43008 to 46591 of the printed table are `tableWord`'s. -/
theorem agree_12 : agreeUpTo Cert.KernelIdeal.lit0t 43008 3584 = true := by decide +kernel
/-- Entries 46592 to 50175 of the printed table are `tableWord`'s. -/
theorem agree_13 : agreeUpTo Cert.KernelIdeal.lit0t 46592 3584 = true := by decide +kernel

end Cert.Blur
-- ==== Proof.Table.lean ====
/-
  The kernel's literal table, whole.
-/
module

public import proofs.«01_k».proof.Proof.Table0
public import proofs.«01_k».proof.Proof.Table1
public import proofs.«01_k».proof.Proof.Table2
public import proofs.«01_k».proof.Proof.Table3

@[expose] public section

namespace Cert.Blur

/-- Every entry of the printed table is `tableWord` at its column parity, input column and output column. -/
theorem table_word (i : Nat) (hi : i < 50176) :
    Cert.KernelIdeal.lit0t i = tableWord (i / 25088) (i / 224 % 112) (i % 224) := by
  have key : ∀ lo, agreeUpTo Cert.KernelIdeal.lit0t lo 3584 = true → lo ≤ i → i < lo + 3584 →
      Cert.KernelIdeal.lit0t i = tableWord (i / 25088) (i / 224 % 112) (i % 224) := fun lo h3 h1 h2 => by
    have := agree_at _ lo _ h3 (i - lo) (by omega)
    rwa [show lo + (i - lo) = i by omega] at this
  rcases Nat.lt_or_ge i 3584 with h0 | h0
  · exact key _ agree_0 (by omega) (by omega)
  rcases Nat.lt_or_ge i 7168 with h1 | h1
  · exact key _ agree_1 (by omega) (by omega)
  rcases Nat.lt_or_ge i 10752 with h2 | h2
  · exact key _ agree_2 (by omega) (by omega)
  rcases Nat.lt_or_ge i 14336 with h3 | h3
  · exact key _ agree_3 (by omega) (by omega)
  rcases Nat.lt_or_ge i 17920 with h4 | h4
  · exact key _ agree_4 (by omega) (by omega)
  rcases Nat.lt_or_ge i 21504 with h5 | h5
  · exact key _ agree_5 (by omega) (by omega)
  rcases Nat.lt_or_ge i 25088 with h6 | h6
  · exact key _ agree_6 (by omega) (by omega)
  rcases Nat.lt_or_ge i 28672 with h7 | h7
  · exact key _ agree_7 (by omega) (by omega)
  rcases Nat.lt_or_ge i 32256 with h8 | h8
  · exact key _ agree_8 (by omega) (by omega)
  rcases Nat.lt_or_ge i 35840 with h9 | h9
  · exact key _ agree_9 (by omega) (by omega)
  rcases Nat.lt_or_ge i 39424 with h10 | h10
  · exact key _ agree_10 (by omega) (by omega)
  rcases Nat.lt_or_ge i 43008 with h11 | h11
  · exact key _ agree_11 (by omega) (by omega)
  rcases Nat.lt_or_ge i 46592 with h12 | h12
  · exact key _ agree_12 (by omega) (by omega)
  exact key _ agree_13 (by omega) (by omega)

end Cert.Blur
-- ==== Proof.KerArray.lean ====
/-
  The kernel's output array after the run.
-/
module

public import proofs.«01_k».proof.Proof.KerBlock
public import proofs.«01_k».proof.Proof.KerPlaces
public import proofs.«01_k».proof.Proof.RefSum
public import proofs.«01_k».proof.Proof.Table
public import Idealize.ShloMosaic.Lib.Pipeline.ValueKit
public import Idealize.ShloMosaic.Lib.Pipeline.Covers

@[expose] public section

set_option maxRecDepth 16384

noncomputable section

namespace Cert.KernelIdeal.Blur

open Idealize.ShloMosaic Idealize.ShloMosaic.TcCoe Cert.KernelIdeal Cert.KernelIdeal.Gen Cert.Blur

variable (m : (ℓ : Loc nD τ sig) → Buf (Elt Ideal) ℓ)

/-- The array the run leaves: batch `b`, channel `c`, line `i` holding rows `2i` and `2i + 1` of the result. -/
def lines (x0 : FVec Ideal ⟨4, ![8, 96, 112, 112]⟩ .f32) (x1 : IVec ⟨1, ![8]⟩ 32) : FVec Ideal S8x96x112x448 .f32 := fun j =>
  result x0 x1 (j 0) (j 1) (2 * (j 2).val + (j 3).val / 224) ((j 3).val % 224)

/-- The image inside the block. -/
theorem blockImage_in (X : Vec Ideal S1x48x112x112 .f32) (d : Fin 48) {i j : Nat} (h : i < 112 ∧ j < 112) :
    blockImage X d i j = X (ix4 0 d ⟨i, h.1⟩ ⟨j, h.2⟩) := dif_pos h

/-- The image outside the block is zero. -/
theorem blockImage_out (X : Vec Ideal S1x48x112x112 .f32) (d : Fin 48) {i j : Nat} (h : ¬(i < 112 ∧ j < 112)) :
    blockImage X d i j = 0 := dif_neg h

/-- The reference's image inside the input. -/
theorem image_in (x0 : FVec Ideal ⟨4, ![8, 96, 112, 112]⟩ .f32) (b : Fin 8) (c : Fin 96) {i j : Nat} (h : i < 112 ∧ j < 112) :
    image x0 b c i j = x0 (ix4 b c ⟨i, h.1⟩ ⟨j, h.2⟩) := dif_pos h

/-- The reference's image outside the input is zero. -/
theorem image_out (x0 : FVec Ideal ⟨4, ![8, 96, 112, 112]⟩ .f32) (b : Fin 8) (c : Fin 96) {i j : Nat} (h : ¬(i < 112 ∧ j < 112)) :
    image x0 b c i j = 0 := dif_neg h

/-- The image that a grid point reads, by row and column. -/
theorem blockImage_at (hO : Ok m) (c : Dev nD) (t : Fin (cfgM m hO).N) (d : Fin 48) (i j : Nat) :
    blockImage (iblk m hO c 0 t) d i j = image (m ((c : Thread nD τ).loc main_arg0)) (batch t)
      (⟨(part t).val * 48 + d.val, by have := (part t).isLt; have := d.isLt; omega⟩ : Fin 96) i j := by
  by_cases h : i < 112 ∧ j < 112
  · refine (blockImage_in (iblk m hO c 0 t) d h).trans (Eq.trans ?_ (image_in _ _ _ h).symm)
    exact block0_at m hO c t 0 d _ _
  · exact (blockImage_out (iblk m hO c 0 t) d h).trans (image_out _ _ _ h).symm

/-- What a grid point stores is its block of the array of lines. -/
theorem stored_block (hO : Ok m) (h : ∀ y : S8.Idx, (m ((0 : Dev nD).tc.loc main_arg1) y).toNat < 4) (t : Fin (cfgM m hO).N) (y : S1x48x112x448.Idx) :
    k0_pay1 (F := Ideal) (phaseAt (tbl m) (grid0.coords t)) (iblk m hO 0 0 t) (iblk m hO 0 1 t) y =
      lines (m ((0 : Dev nD).tc.loc main_arg0)) (m ((0 : Dev nD).tc.loc main_arg1)) ((((cfgM m hO).win 2).blk t).view.emb y) := by
  have w : (phaseAt (tbl m) (grid0.coords t)).toNat < 4 := by
    rw [phase_at]
    exact h _
  rw [place2 m hO t y]
  obtain ⟨z, d, i, q, rfl⟩ : ∃ z d i q, y = ix4 z d i q := ⟨y 0, y 1, y 2, y 3, by funext a; fin_cases a <;> rfl⟩
  rw [stored_at _ w (iblk m hO 0 0 t) (iblk m hO 0 1 t) (fun k s => by
    have hk := k.isLt
    have hs := s.isLt
    refine (block1_at m hO 0 t w 0 k s).trans ?_
    generalize (phaseAt (tbl m) (grid0.coords t)).toNat = p at w ⊢
    rw [table_word _ (by omega), show (p / 2 * 25088 + k.val * 224 + s.val) / 25088 = p / 2 by omega,
      show (p / 2 * 25088 + k.val * 224 + s.val) / 224 % 112 = k.val by omega,
      show (p / 2 * 25088 + k.val * 224 + s.val) % 224 = s.val by omega])]
  have e : blockImage (iblk m hO 0 0 t) d = image (m ((0 : Dev nD).tc.loc main_arg0)) (batch t)
      (⟨(part t).val * 48 + d.val, by have := (part t).isLt; have := d.isLt; omega⟩ : Fin 96) :=
    funext fun i => funext fun j => blockImage_at m hO 0 t d i j
  rw [e, phase_at]
  rfl

/-- The output array after the run is the array of lines. -/
theorem array_eq (hO : Ok m) (h : ∀ y : S8.Idx, (m ((0 : Dev nD).tc.loc main_arg1) y).toNat < 4) (c : Dev nD) :
    (dats m hO 0 c).arrAt 2 (cfgM m hO).N = lines (m ((0 : Dev nD).tc.loc main_arg0)) (m ((0 : Dev nD).tc.loc main_arg1)) := by
  refine (dats m hO 0 c).arrAt_eq_of_covers 2 _ (covers2 m hO) fun t hf y => ?_
  obtain rfl : c = 0 := Subsingleton.elim _ _
  refine Eq.trans ?_ (stored_block m hO h t y)
  blk_simp
  rw [after0_2]
  unfold outsAt0
  frame_out
  refine congrFun (congr (congr (congrArg (k0_pay1 (F := Ideal)) ?_) ?_) ?_) y
  · rfl
  · exact Memref.IsWhole.read_unread _ _
  · exact Memref.IsWhole.read_unread _ _

end Cert.KernelIdeal.Blur
-- ==== Proof.KerRun.lean ====
/-
  The kernel's run: its result is the two one-dimensional blurs of the spread input.
-/
module

public import proofs.«01_k».proof.Proof.KerArray

@[expose] public section

set_option maxRecDepth 16384

noncomputable section

namespace Cert.KernelIdeal.Blur

open Idealize.ShloMosaic Idealize.ShloMosaic.TcCoe Idealize.SL.Sem Cert.KernelIdeal Cert.KernelIdeal.Gen Cert.Blur

variable (m : (ℓ : Loc nD τ sig) → Buf (Elt Ideal) ℓ) (g : Dev nD → PrngReg)

/-- The array of lines, reshaped to an image of twice the size. -/
theorem lines_reshaped (x0 : FVec Ideal ⟨4, ![8, 96, 112, 112]⟩ .f32) (x1 : IVec ⟨1, ![8]⟩ 32) :
    shapeCast S8x96x224x224 (lines x0 x1) shapeCasts_S8x96x112x448_S8x96x224x224 =
      fun j => result x0 x1 (j 0) (j 1) (j 2).val (j 3).val := by
  funext j
  obtain ⟨b, d, p, q, rfl⟩ : ∃ b d p q, j = ix4 b d p q := ⟨j 0, j 1, j 2, j 3, by funext a; fin_cases a <;> rfl⟩
  have hp := p.isLt
  have hq := q.isLt
  have e : shapeCast S8x96x224x224 (lines x0 x1) shapeCasts_S8x96x112x448_S8x96x224x224 (ix4 b d p q) =
      lines x0 x1 (ix4 b d (⟨p.val / 2, by omega⟩ : Fin 112) (⟨p.val % 2 * 224 + q.val, by omega⟩ : Fin 448)) := by
    unfold shapeCast
    refine congrArg (lines x0 x1) (Shape.reshapeEquiv_eq_of_rowMajor _ ?_)
    rw [Shape.rowMajor_val_four, Shape.rowMajor_val_four]
    show ((b.val * 96 + d.val) * 112 + p.val / 2) * 448 + (p.val % 2 * 224 + q.val) = ((b.val * 96 + d.val) * 224 + p.val) * 224 + q.val
    omega
  rw [e]
  show result x0 x1 b d (2 * (p.val / 2) + (p.val % 2 * 224 + q.val) / 224) ((p.val % 2 * 224 + q.val) % 224) = result x0 x1 b d p.val q.val
  rw [show 2 * (p.val / 2) + (p.val % 2 * 224 + q.val) / 224 = p.val by omega, show (p.val % 2 * 224 + q.val) % 224 = q.val by omega]

/-- The result buffer once the reshape after the grid has run. -/
theorem tail_value (hO : Ok m) (h : ∀ y : S8.Idx, (m ((0 : Dev nD).tc.loc main_arg1) y).toNat < 4) (c : Dev nD) :
    Pipeline.afterTail pcfgs (fun _ => adm m hO) (dats m hO) 0 (V0 m) [hostOps1] c main_v1 =
      fun j => result (m ((0 : Dev nD).tc.loc main_arg0)) (m ((0 : Dev nD).tc.loc main_arg1)) (j 0) (j 1) (j 2).val (j 3).val := by
  unfold Pipeline.afterTail
  show StableHlo.after (hostOps1 ++ []) _ (Proc.devRef .tc main_v1) = _
  unfold hostOps1
  simp only [List.cons_append, List.nil_append, StableHlo.after_cons, StableHlo.after_nil]
  refine (StableHlo.reshape_result ..).trans ?_
  have e := (Pipeline.withArrays_arr spec0 (by decide) c (V0 m c) (fun w => (dats m hO 0 c).arrAt w (cfgM m hO).N) 2).trans (array_eq m hO h c)
  refine Eq.trans ?_ (lines_reshaped _ _)
  rw [← e]
  rfl

/-- The kernel ends with the blurs of the spread input for its result, its arguments unchanged. -/
theorem computes (h : ∀ y : S8.Idx, (m ((0 : Dev nD).tc.loc main_arg1) y).toNat < 4) :
    θ_run (defs (F := Ideal)) (onTc (τ := τ) (main (F := Ideal))) ⟨m, fun _ => 0, g⟩ (fun r => ∀ c : Dev nD,
      r.2.mem ((c.tc : Thread nD τ).loc main_v1) = (fun j => result (m ((0 : Dev nD).tc.loc main_arg0)) (m ((0 : Dev nD).tc.loc main_arg1)) (j 0) (j 1) (j 2).val (j 3).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hO : Ok m := ok_of_lt m h
  refine (θ_run defs _ _).mono (fun r hr c => ⟨?_, hr.2 c⟩) (θ_run_and (run_main m g hO) (unchanged m g hO))
  exact ((hr.1 c).2 main_v1 (by exact (by decide : main_v1 ∈ Pipeline.restRefs sig spec0))).trans (tail_value m hO h c)

end Cert.KernelIdeal.Blur
-- ==== Proof.RefRun.lean ====
/-
  The reference's run: it ends, its arguments unchanged and every counter at zero.
-/
module

public import proofs.«01_k».proof.Proof.RefSum
public import proofs.«01_k».proof.Proof.Gen.ReferenceIdeal.Run
public import proofs.«01_k».proof.Proof.Gen.ReferenceIdeal.Read

@[expose] public section

set_option maxRecDepth 16384

noncomputable section

namespace Cert.ReferenceIdeal.Blur

open Idealize.ShloMosaic Idealize.ShloMosaic.TcCoe Idealize.SL.Sem Cert.ReferenceIdeal

variable (m : (ℓ : Loc nD τ sig) → Buf (Elt Ideal) ℓ) (g : Dev nD → PrngReg)

/-- The reference ends with its arguments unchanged and every counter at zero. -/
theorem ends : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  exact (θ_run defs _ _).mono (fun r h => ⟨fun c => (h c).2, sem_eq_zero_of_no_sems (by decide) r.2⟩) (Cert.ReferenceIdeal.Value.run m g)

/-- The reference's result, on tap products for a filter and phases below four: the two one-dimensional blurs. -/
theorem computes (x0 : FVec Ideal ⟨4, ![8, 96, 112, 112]⟩ .f32) (x1 : IVec ⟨1, ![8]⟩ 32) (x2 : FVec Ideal ⟨4, ![96, 1, 3, 3]⟩ .f32)
    (h0 : ∀ c : Dev nD, m ((c.tc : Thread nD τ).loc main_arg0) = x0) (h1 : ∀ c : Dev nD, m ((c.tc : Thread nD τ).loc main_arg1) = x1)
    (h2 : ∀ c : Dev nD, m ((c.tc : Thread nD τ).loc main_arg2) = x2)
    (h : ∀ y, (x1 y).toNat < 4) (hf : ∀ c i j, x2 (ix4 c 0 i j) = Cert.Blur.tap i * Cert.Blur.tap j) :
    θ_run (defs (F := Ideal)) (onTc (τ := τ) (main (F := Ideal))) ⟨m, fun _ => 0, g⟩ (fun r => ∀ c : Dev nD,
      r.2.mem ((c.tc : Thread nD τ).loc main_v129) = (fun j => Cert.Blur.result x0 x1 (j 0) (j 1) (j 2).val (j 3).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have e : ∀ c : Dev nD, Read.val_main_v129 (F := Ideal) (StableHlo.launchContents m c (Proc.devRef .tc main_arg0)) (StableHlo.launchContents m c (Proc.devRef .tc main_arg1)) (StableHlo.launchContents m c (Proc.devRef .tc main_arg2)) =
      (fun j => Cert.Blur.result x0 x1 (j 0) (j 1) (j 2).val (j 3).val) := fun c => by
    show Read.val_main_v129 (F := Ideal) (m ((c.tc : Thread nD τ).loc main_arg0)) (m ((c.tc : Thread nD τ).loc main_arg1)) (m ((c.tc : Thread nD τ).loc main_arg2)) = _
    rw [h0 c, h1 c, h2 c]
    funext j
    obtain ⟨b, d, p, q, rfl⟩ : ∃ b d p q, j = ix4 b d p q := ⟨j 0, j 1, j 2, j 3, by funext a; fin_cases a <;> rfl⟩
    exact Cert.Blur.reference_at x0 x1 x2 h hf b d p q
  exact (θ_run defs _ _).mono (fun r hr c => ⟨((hr c).1.trans (Read.val_main_v129_eq (StableHlo.launchContents m c))).trans (e c), (hr c).2⟩) (Cert.ReferenceIdeal.Value.run m g)

end Cert.ReferenceIdeal.Blur
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_phase_range
public import proofs.«01_k».proof.Proof.Gen.Pre_phases_and_blur
public import proofs.«01_k».proof.Proof.Gen.ReferenceIdeal.Run
public import proofs.«01_k».proof.Proof.Gen.ReferenceIdeal.Read
public import proofs.«01_k».proof.Proof.PreFacts
public import proofs.«01_k».proof.Proof.PhaseBits
public import proofs.«01_k».proof.Proof.KerRun
public import proofs.«01_k».proof.Proof.RefRun
public import Idealize.ShloMosaic.Adequacy
public import Idealize.ShloMosaic.Init

@[expose] public section

noncomputable section

namespace Cert.Proof

open Idealize.ShloMosaic Idealize.SL.Sem

/-- The kernel, on bits, ends with its arguments unchanged and every counter at zero. -/
theorem kernel_ends : Cert.quiescent_Kernel := fun m g h =>
  Cert.Kernel.Gen.frame m g (Cert.Kernel.Blur.ok_of_lt m (Cert.Blur.phase_lt_of_range _ _ _ (h 0)))

/-- So does its idealization. -/
theorem ideal_ends : Cert.quiescent_KernelIdeal := fun m g h =>
  Cert.KernelIdeal.Gen.frame m g (Cert.KernelIdeal.Blur.ok_of_lt m (Cert.Blur.phase_lt_of_range _ _ _ (h 0)))

/-- And under the value claim's precondition. -/
theorem ideal_ends_blur : Cert.quiescent_KernelIdeal_pre_phases_and_blur := fun m g h =>
  Cert.KernelIdeal.Gen.frame m g (Cert.KernelIdeal.Blur.ok_of_lt m (Cert.Blur.phase_lt_of_blur _ _ _ (h 0).1))

/-- The reference ends with its arguments unchanged and every counter at zero. -/
theorem reference_ends : Cert.quiescent_ReferenceIdeal := fun m g _ => Cert.ReferenceIdeal.Blur.ends m g

/-- And under the value claim's precondition. -/
theorem reference_ends_blur : Cert.quiescent_ReferenceIdeal_pre_phases_and_blur := fun m g _ => Cert.ReferenceIdeal.Blur.ends m g

/-- The idealized kernel and the reference end with the same result: the two one-dimensional blurs. -/
theorem same_result : Cert.algebraic_KernelIdeal_ReferenceIdeal_pre_phases_and_blur := by
  intro m g m' g' h hagree
  have hp := Cert.Blur.phase_lt_of_blur _ _ _ (h 0).1
  have hf := Cert.Blur.filter_of_blur _ _ _ (h 0).2
  refine ⟨_, Cert.KernelIdeal.Blur.computes m g hp, Cert.ReferenceIdeal.Blur.computes m' g' _ _ _ (fun c => ?_) (fun c => ?_) (fun c => ?_) hp hf⟩
  · obtain rfl : c = 0 := Subsingleton.elim _ _
    exact (hagree 0).1
  · obtain rfl : c = 0 := Subsingleton.elim _ _
    exact (hagree 0).2.1
  · obtain rfl : c = 0 := Subsingleton.elim _ _
    exact (hagree 0).2.2

/-- Every claim of the certificate. -/
theorem claim : Cert.Claim := ⟨Cert.Kernel.Gen.facts, Cert.KernelIdeal.Gen.facts, Cert.ReferenceIdeal.Gen.facts, Cert.Pre_phase_range.Gen.facts, Cert.Pre_phases_and_blur.Gen.facts,
  kernel_ends, ideal_ends, ideal_ends_blur, reference_ends, reference_ends_blur, trivial, same_result⟩

end Cert.Proof

end
